-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16384x64 : Shape := ⟨2, ![16384, 64]⟩
abbrev S_ : Shape := ⟨0, ![]⟩

class Facts : Prop where
  bcast_S_S16384x64 : S_.BroadcastsInDim S16384x64 (![] : Fin 0 → Fin S16384x64.rank)

variable [Facts]

def fn {F : FTy → Type} [FloatOps F] (main_arg0 : FVec F S16384x64 .f32) : IVec S16384x64 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  main_v2
-- ==== Kernel.lean ====
abbrev S16384x64 : Shape := ⟨2, ![16384, 64]⟩
abbrev S16384x16 : Shape := ⟨2, ![16384, 16]⟩
abbrev S128x64 : Shape := ⟨2, ![128, 64]⟩
abbrev S128x16 : Shape := ⟨2, ![128, 16]⟩
abbrev S1x16384 : Shape := ⟨2, ![1, 16384]⟩
abbrev S16384 : Shape := ⟨1, ![16384]⟩
abbrev S128 : Shape := ⟨1, ![128]⟩
abbrev S128x16384 : Shape := ⟨2, ![128, 16384]⟩
abbrev S128x1 : Shape := ⟨2, ![128, 1]⟩
abbrev S128x1024 : Shape := ⟨2, ![128, 1024]⟩
abbrev S1024 : Shape := ⟨1, ![1024]⟩
abbrev S1x1024 : Shape := ⟨2, ![1, 1024]⟩
abbrev S128x2048 : Shape := ⟨2, ![128, 2048]⟩
abbrev S1x128x1024 : Shape := ⟨3, ![1, 128, 1024]⟩
abbrev S1 : Shape := ⟨1, ![1]⟩
abbrev S1x1x1 : Shape := ⟨3, ![1, 1, 1]⟩
abbrev S262144 : Shape := ⟨1, ![262144]⟩
abbrev S1x262144 : Shape := ⟨2, ![1, 262144]⟩
abbrev S2x262144 : Shape := ⟨2, ![2, 262144]⟩

abbrev nBuf : Space → Nat
  | .hbm => 10
  | .vmem => 8
  | .smem => 0
  | _ => 0

abbrev bufTy : (tb : Table) → Fin (tcTables nBuf tb) → BufTy
  | .hbm, ⟨0, _⟩ => ⟨S16384x64, .f32⟩
  | .hbm, ⟨1, _⟩ => ⟨S16384x16, .i32⟩
  | .hbm, ⟨2, _⟩ => ⟨S16384x16, .f32⟩
  | .hbm, ⟨3, _⟩ => ⟨S262144, .i32⟩
  | .hbm, ⟨4, _⟩ => ⟨S16384, .i32⟩
  | .hbm, ⟨5, _⟩ => ⟨S16384x16, .i32⟩
  | .hbm, ⟨6, _⟩ => ⟨S262144, .i32⟩
  | .hbm, ⟨7, _⟩ => ⟨S1x262144, .i32⟩
  | .hbm, ⟨8, _⟩ => ⟨S1x262144, .i32⟩
  | .hbm, ⟨9, _⟩ => ⟨S2x262144, .i32⟩
  | .local _ .vmem, ⟨0, _⟩ => ⟨S128x64, .f32⟩
  | .local _ .vmem, ⟨1, _⟩ => ⟨S128x64, .f32⟩
  | .local _ .vmem, ⟨2, _⟩ => ⟨S16384x64, .f32⟩
  | .local _ .vmem, ⟨3, _⟩ => ⟨S128x16, .i32⟩
  | .local _ .vmem, ⟨4, _⟩ => ⟨S128x16, .i32⟩
  | .local _ .vmem, ⟨5, _⟩ => ⟨S128x16, .f32⟩
  | .local _ .vmem, ⟨6, _⟩ => ⟨S128x16, .f32⟩
  | .local _ .vmem, ⟨7, _⟩ => ⟨S1x16384, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![128], ![false]⟩

@[reducible] def k0_t1_loop : Scf.Loop 32 :=
  let c0_i32_61 : BitVec 32 := 0#32
  let c16_i32 : BitVec 32 := 16#32
  let v383 : BitVec 32 := Scalar.addi c0_i32_61 c16_i32
  let c1_i32_62 : BitVec 32 := 1#32
  ⟨c0_i32_61, v383, c1_i32_62⟩
@[reducible] def k0_t2_loop : Scf.Loop 32 :=
  let c0_i32_78 : BitVec 32 := 0#32
  let c16_i32_79 : BitVec 32 := 16#32
  let v415 : BitVec 32 := Scalar.addi c0_i32_78 c16_i32_79
  let c1_i32_80 : BitVec 32 := 1#32
  ⟨c0_i32_78, v415, c1_i32_80⟩
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16384x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x16 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S16384x64 : Shape := ⟨2, ![16384, 64]⟩
abbrev S_ : Shape := ⟨0, ![]⟩
abbrev S16384 : Shape := ⟨1, ![16384]⟩
abbrev S16384x1 : Shape := ⟨2, ![16384, 1]⟩
abbrev S64x16384 : Shape := ⟨2, ![64, 16384]⟩
abbrev S16384x16384 : Shape := ⟨2, ![16384, 16384]⟩
abbrev S1x16384 : Shape := ⟨2, ![1, 16384]⟩
abbrev S16384x16 : Shape := ⟨2, ![16384, 16]⟩
abbrev S262144 : Shape := ⟨1, ![262144]⟩
abbrev S1x262144 : Shape := ⟨2, ![1, 262144]⟩
abbrev S2x262144 : Shape := ⟨2, ![2, 262144]⟩

abbrev nBuf : Space → Nat
  | .hbm => 29
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S16384x64, .f32⟩
  | .hbm, ⟨2, _⟩ => ⟨S_, .f32⟩
  | .hbm, ⟨3, _⟩ => ⟨S16384, .f32⟩
  | .hbm, ⟨4, _⟩ => ⟨S16384x1, .f32⟩
  | .hbm, ⟨5, _⟩ => ⟨S64x16384, .f32⟩
  | .hbm, ⟨6, _⟩ => ⟨S16384x16384, .f32⟩
  | .hbm, ⟨7, _⟩ => ⟨S_, .f32⟩
  | .hbm, ⟨8, _⟩ => ⟨S16384x16384, .f32⟩
  | .hbm, ⟨9, _⟩ => ⟨S16384x16384, .f32⟩
  | .hbm, ⟨10, _⟩ => ⟨S16384x16384, .f32⟩
  | .hbm, ⟨11, _⟩ => ⟨S16384x16384, .f32⟩
  | .hbm, ⟨12, _⟩ => ⟨S1x16384, .f32⟩
  | .hbm, ⟨13, _⟩ => ⟨S16384x16384, .f32⟩
  | .hbm, ⟨14, _⟩ => ⟨S16384x16384, .f32⟩
  | .hbm, ⟨15, _⟩ => ⟨S_, .f32⟩
  | .hbm, ⟨16, _⟩ => ⟨S16384x16384, .f32⟩
  | .hbm, ⟨17, _⟩ => ⟨S16384x16384, .f32⟩
  | .hbm, ⟨18, _⟩ => ⟨S16384x16384, .f32⟩
  | .hbm, ⟨19, _⟩ => ⟨S16384x16, .f32⟩
  | .hbm, ⟨20, _⟩ => ⟨S16384x16, .i32⟩
  | .hbm, ⟨21, _⟩ => ⟨S16384x16, .f32⟩
  | .hbm, ⟨22, _⟩ => ⟨S262144, .i32⟩
  | .hbm, ⟨23, _⟩ => ⟨S16384, .i32⟩
  | .hbm, ⟨24, _⟩ => ⟨S16384x16, .i32⟩
  | .hbm, ⟨25, _⟩ => ⟨S262144, .i32⟩
  | .hbm, ⟨26, _⟩ => ⟨S1x262144, .i32⟩
  | .hbm, ⟨27, _⟩ => ⟨S1x262144, .i32⟩
  | .hbm, ⟨28, _⟩ => ⟨S2x262144, .i32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_values : Ref sig .tc := ⟨.hbm, 19, rfl⟩
abbrev main_indices : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]
-- ==== Proof.KernelIdeal.Body.lean ====
/-
  The body of one grid point, run once from its staging buffers (`Kernel/Body.lean` is the same text for the
  idealized program).
-/
module

public import proofs.«01_k».proof.Proof.Gen.KernelIdeal.Frame
public import proofs.«01_k».proof.Proof.Gen.KernelIdeal.Skeleton
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The candidates' extraction loop, as its fold. -/
def scan (v6 : FVec F S16384 .f32) (v9 : FVec F S128x16384 .f32) (v10 : FVec F S128x1 .f32) (v323 : IVec S128x1024 32) (v324 : FVec F S128x1024 .f32) (v339 : IVec S128x1024 32) (v340 : FVec F S128x1024 .f32) (v342 : IVec S128x1024 32) (v343 : IVec S128x1024 1) (v344 : FVec F S128x1024 .f32) (v345 : FVec F S128x1024 .f32) :
    FVec F S128x2048 .f32 × IVec S128x16 32 × FVec F S128x16 .f32 :=
  Scf.fold (n := k0_t1_loop.trips) (fun k x => (k0_pay150 v6 v9 v10 v323 v339 v340 v342 v343 v345 x.1,
    k0_pay148 v6 v9 v10 v323 v339 v340 v342 v343 v345 k x.1 x.2.1, k0_pay149 k x.1 x.2.2))
    (k0_pay141 v6 v9 v10 v340 v345, k0_pay143, k0_pay144 (F := F))

/-- The extraction loop over the whole row, as its fold. -/
def scanAll (v6 : FVec F S16384 .f32) (v9 : FVec F S128x16384 .f32) (v10 : FVec F S128x1 .f32) :
    FVec F S128x16384 .f32 × IVec S128x16 32 × FVec F S128x16 .f32 :=
  Scf.fold (n := k0_t2_loop.trips) (fun k x => (k0_pay10 x.1, k0_pay8 k x.1 x.2.1, k0_pay9 k x.1 x.2.2))
    (k0_pay2 v6 v9 v10, k0_pay3, k0_pay4 (F := F))

/-- The test that sends a block to the whole-row extraction. -/
def flag (a : IVec S128x1024 1) (b d : FVec F S128x1024 .f32) : BitVec 1 :=
  Scalar.cmpi .ne (Scalar.extui (Scalar.cmpf .ogt (k0_pay1 a b d) (Scalar.ofBits .f32 0x00000000#32))) (0#32 : BitVec 32)

/-- The two results of a block from the values at hand after the last fold step. -/
def knn8 (v6 : FVec F S16384 .f32) (v9 : FVec F S128x16384 .f32) (v10 : FVec F S128x1 .f32) (v323 : IVec S128x1024 32) (v324 : FVec F S128x1024 .f32) (v339 : IVec S128x1024 32) (v340 : FVec F S128x1024 .f32) (v342 : IVec S128x1024 32) (v343 : IVec S128x1024 1) (v344 : FVec F S128x1024 .f32) (v345 : FVec F S128x1024 .f32) : IVec S128x16 32 × FVec F S128x16 .f32 :=
  if flag (k0_pay151 v6 v9 v10 v324 v340 v344 v345 (scan v6 v9 v10 v323 v324 v339 v340 v342 v343 v344 v345).2.2) k0_pay152 (k0_pay153 (F := F)) = 1#1
  then (scanAll v6 v9 v10).2 else (scan v6 v9 v10 v323 v324 v339 v340 v342 v343 v344 v345).2

/-- The same from the values at hand before part 7. -/
def knn7 (v6 : FVec F S16384 .f32) (v9 : FVec F S128x16384 .f32) (v10 : FVec F S128x1 .f32) (v273 : IVec S128x1024 32) (v276 : FVec F S128x1024 .f32) (v277 : IVec S128x1024 32) (v278 : FVec F S128x1024 .f32) (v290 : IVec S128x1024 1) (v291 : FVec F S128x1024 .f32) (v293 : IVec S128x1024 32) (v294 : FVec F S128x1024 .f32) : IVec S128x16 32 × FVec F S128x16 .f32 :=
  knn8 v6 v9 v10 (k0_pay126 v6 v9 v10 v273 v276 v277 v290 v291 v293 v294) (k0_pay127 v6 v9 v10 v276 v278 v291 v294) (k0_pay131 v6 v9 v10 v273 v290 v294) (k0_pay132 v6 v9 v10 v294) (k0_pay133 v6 v9 v10 v273 v290 v294) (k0_pay134 v6 v9 v10 v276 v291 v294) (k0_pay135 v6 v9 v10 v276 v291 v294) (k0_pay136 v6 v9 v10 v276 v291 v294)

/-- The same from the values at hand before part 6. -/
def knn6 (v6 : FVec F S16384 .f32) (v9 : FVec F S128x16384 .f32) (v10 : FVec F S128x1 .f32) (v225 : FVec F S128x1024 .f32) (v227 : IVec S128x1024 32) (v230 : FVec F S128x1024 .f32) (v231 : IVec S128x1024 32) (v232 : FVec F S128x1024 .f32) (v243 : FVec F S128x1024 .f32) : IVec S128x16 32 × FVec F S128x16 .f32 :=
  knn7 v6 v9 v10 (k0_pay106 v6 v9 v10 v225 v227 v243) (k0_pay108 v6 v9 v10 v225 v230 v243) (k0_pay109 v6 v9 v10 v225 v227 v230 v231 v243) (k0_pay110 v6 v9 v10 v225 v230 v232 v243) (k0_pay112 v6 v9 v10 v225 v243) (k0_pay113 v6 v9 v10 v225 v243) (k0_pay114 v6 v9 v10 v225 v227 v243) (k0_pay115 v6 v9 v10 v225 v243)

/-- The same from the values at hand before part 5. -/
def knn5 (v6 : FVec F S16384 .f32) (v9 : FVec F S128x16384 .f32) (v10 : FVec F S128x1 .f32) (v179 : FVec F S128x1024 .f32) (v181 : IVec S128x1024 32) (v184 : FVec F S128x1024 .f32) (v185 : IVec S128x1024 32) (v186 : FVec F S128x1024 .f32) (v191 : FVec F S128x1024 .f32) (v192 : FVec F S1024 .f32) : IVec S128x16 32 × FVec F S128x16 .f32 :=
  knn6 v6 v9 v10 (k0_pay89 v6 v9 v10 v179 v191 v192) (k0_pay90 v6 v9 v10 v179 v181 v191 v192) (k0_pay92 v6 v9 v10 v179 v184 v191 v192) (k0_pay93 v6 v9 v10 v179 v181 v184 v185 v191 v192) (k0_pay94 v6 v9 v10 v179 v184 v186 v191 v192) (k0_pay95 v6 v9 v10)

/-- The same from the values at hand before part 4. -/
def knn4 (v6 : FVec F S16384 .f32) (v9 : FVec F S128x16384 .f32) (v10 : FVec F S128x1 .f32) (v133 : FVec F S128x1024 .f32) (v135 : IVec S128x1024 32) (v138 : FVec F S128x1024 .f32) (v139 : IVec S128x1024 32) (v140 : FVec F S128x1024 .f32) (v141 : FVec F S128x1024 .f32) : IVec S128x16 32 × FVec F S128x16 .f32 :=
  knn5 v6 v9 v10 (k0_pay71 v6 v9 v10 v133 v141) (k0_pay72 v6 v9 v10 v133 v135 v141) (k0_pay74 v6 v9 v10 v133 v138 v141) (k0_pay75 v6 v9 v10 v133 v135 v138 v139 v141) (k0_pay76 v6 v9 v10 v133 v138 v140 v141) (k0_pay77 v9 v10) (k0_pay78 v6)

/-- The same from the values at hand before part 3. -/
def knn3 (v6 : FVec F S16384 .f32) (v9 : FVec F S128x16384 .f32) (v10 : FVec F S128x1 .f32) (v69 : FVec F S128x1024 .f32) (v70 : IVec S128x1024 32) (v71 : FVec F S128x1024 .f32) (v84 : FVec F S128x1024 .f32) (v86 : IVec S128x1024 32) (v87 : FVec F S128x1024 .f32) (v89 : IVec S128x1024 32) : IVec S128x16 32 × FVec F S128x16 .f32 :=
  knn4 v6 v9 v10 (k0_pay54 v6 v9 v10 v87) (k0_pay55 v6 v9 v10 v87 v89) (k0_pay57 v6 v9 v10 v69 v84 v87) (k0_pay58 v6 v9 v10 v69 v70 v84 v86 v87 v89) (k0_pay59 v6 v9 v10 v69 v71 v84 v87) (k0_pay60 v9)

/-- The same from the values at hand before part 2. -/
def knn2 (v6 : FVec F S16384 .f32) (v9 : FVec F S128x16384 .f32) (v10 : FVec F S128x1 .f32) (v21 : FVec F S128x1024 .f32) (v22 : IVec S128x1024 32) (v23 : FVec F S128x1024 .f32) (v24 : IVec S128x1024 32) (v25 : FVec F S128x1024 .f32) (v36 : FVec F S128x1024 .f32) (v37 : IVec S128x1024 1) (v38 : FVec F S128x1024 .f32) (c1_i32 : BitVec 32) : IVec S128x16 32 × FVec F S128x16 .f32 :=
  knn3 v6 v9 v10 (k0_pay33 v6 v9 v10 v21 v23 v36 v37 v38) (k0_pay34 v6 v9 v10 v21 v22 v23 v24 v36 v37 v38 c1_i32) (k0_pay35 v6 v9 v10 v21 v23 v25 v36 v37 v38) (k0_pay38 v6 v9 v10 v21 v36 v37) (k0_pay39 v6 v9 v10 v21 v22 v36 v37) (k0_pay40 v6 v9 v10 v21 v36 v37) (k0_pay41 v6 v9 v10 v21 v22 v36 v37)

/-- Everything the body computes from the query block, all the rows and their squared lengths. -/
def knn (v0 : Vec F S128x64 .f32) (v1 : Vec F S16384x64 .f32) (v5 : Vec F S1x16384 .f32) : IVec S128x16 32 × FVec F S128x16 .f32 :=
  knn2 (k0_pay12 v5) (k0_pay13 v0 v1) (k0_pay14 v0) (k0_pay15 v0 v1 v5) k0_pay16 (k0_pay17 (F := F)) k0_pay18 (k0_pay19 (F := F))
    (k0_pay20 v0 v1 v5) (k0_pay21 v0 v1 v5) (k0_pay22 v0 v1 v5) 1#32

/-- The body's last lines: the two results stored whole. -/
def finish (M3 : Memref sig .tc .vmem S128x16 .i32) (M4 : Memref sig .tc .vmem S128x16 .f32)
    (r : IVec S128x16 32 × FVec F S128x16 .f32) : Prog (TpuEff nD τ sig (Elt F) Λ₀ .tc) PUnit := do
  let v400 : Vec F S128x16 .i32 ← Prog.lift (.load M3 (Rect.unit (s := S128x16) ![0, 0] S128x16.size inb_S128x16_S128x16_0_0).toLoadRect (View.loadsAt_vmem h_S128x16))
  Prog.lift (.store M3 (Rect.unit (s := S128x16) ![0, 0] S128x16.size inb_S128x16_S128x16_0_0) r.1 Finset.univ (View.stores_vmem_bits_univ h_S128x16 rfl) (.inl rfl))
  let v401 : Vec F S128x16 .f32 ← Prog.lift (.load M4 (Rect.unit (s := S128x16) ![0, 0] S128x16.size inb_S128x16_S128x16_0_0).toLoadRect (View.loadsAt_vmem h_S128x16))
  Prog.lift (.store M4 (Rect.unit (s := S128x16) ![0, 0] S128x16.size inb_S128x16_S128x16_0_0) r.2 Finset.univ (View.stores_vmem_bits_univ h_S128x16 rfl) (.inl rfl))
  pure ⟨⟩

/-- The body's last part, with what follows it, comes to storing `knn8`. -/
theorem tail8 (i : grid0.Coords) (M1 : Memref sig .tc .vmem S128x64 .f32) (h1 : M1.IsWhole) (M2 : Memref sig .tc .vmem S16384x64 .f32) (h2 : M2.IsWhole)
    (M3 : Memref sig .tc .vmem S128x16 .i32) (h3 : M3.IsWhole) (M4 : Memref sig .tc .vmem S128x16 .f32) (h4 : M4.IsWhole)
    (M5 : Memref sig .tc .vmem S1x16384 .f32) (h5 : M5.IsWhole) (v6 : FVec F S16384 .f32) (v9 : FVec F S128x16384 .f32) (v10 : FVec F S128x1 .f32) (v323 : IVec S128x1024 32) (v324 : FVec F S128x1024 .f32) (v339 : IVec S128x1024 32) (v340 : FVec F S128x1024 .f32) (v342 : IVec S128x1024 32) (v343 : IVec S128x1024 1) (v344 : FVec F S128x1024 .f32) (v345 : FVec F S128x1024 .f32) :
    (do
      let ⟨v384_1, v384_2, v388, v389, v390⟩ : Σ' (v384_1 : IVec S128x16 32) (v384_2 : FVec F S128x16 .f32) (v388 : IVec S128x1024 1) (v389 : FVec F S128x1024 .f32), FVec F S128x1024 .f32 ← k0_part8_skel (F := F) i M1 h1 M2 h2 M3 h3 M4 h4 M5 h5 v6 v9 v10 v323 v324 v339 v340 v342 v343 v344 v345
      have cst_68 : F .f32 := Scalar.ofBits .f32 0x00000000#32
      let v396 : BitVec 1 := Scalar.cmpf .ogt (k0_pay1 v388 v389 v390) cst_68
      let v397 : BitVec 32 := Scalar.extui v396
      let v398 : BitVec 1 := Scalar.cmpi .ne v397 0#32
      let (v399_0, v399_1) : IVec S128x16 32 × FVec F S128x16 .f32 ← if v398 = 1#1 then do
          let (v416_0, v416_1, v416_2) ← Scf.Loop.for k0_t2_loop k0_t2_ok (k0_pay2 v6 v9 v10, k0_pay3, k0_pay4 (F := F)) (k0_t2_body i M1 h1 M2 h2 M3 h3 M4 h4 M5 h5)
          pure (v416_1, v416_2)
        else do
          pure (v384_1, v384_2)
      let v400 : Vec F S128x16 .i32 ← Prog.lift (.load M3 (Rect.unit (s := S128x16) ![0, 0] S128x16.size inb_S128x16_S128x16_0_0).toLoadRect (View.loadsAt_vmem h_S128x16))
      Prog.lift (.store M3 (Rect.unit (s := S128x16) ![0, 0] S128x16.size inb_S128x16_S128x16_0_0) v399_0 Finset.univ (View.stores_vmem_bits_univ h_S128x16 rfl) (.inl rfl))
      let v401 : Vec F S128x16 .f32 ← Prog.lift (.load M4 (Rect.unit (s := S128x16) ![0, 0] S128x16.size inb_S128x16_S128x16_0_0).toLoadRect (View.loadsAt_vmem h_S128x16))
      Prog.lift (.store M4 (Rect.unit (s := S128x16) ![0, 0] S128x16.size inb_S128x16_S128x16_0_0) v399_1 Finset.univ (View.stores_vmem_bits_univ h_S128x16 rfl) (.inl rfl))
      pure ⟨⟩ : Prog (TpuEff nD τ sig (Elt F) Λ₀ .tc) PUnit)
      = finish M3 M4 (knn8 v6 v9 v10 v323 v324 v339 v340 v342 v343 v344 v345) := by
  unfold k0_part8_skel
  rw [show Scf.Loop.for k0_t1_loop k0_t1_ok (k0_pay141 v6 v9 v10 v340 v345, k0_pay143, k0_pay144 (F := F))
      (k0_t1_body (F := F) i M1 h1 M2 h2 M3 h3 M4 h4 M5 h5 v6 v9 v10 v323 v324 v339 v340 v342 v343 v344 v345) = .ret (scan v6 v9 v10 v323 v324 v339 v340 v342 v343 v344 v345) from
    Scf.for_pure _ _ _ _ _ _ (fun k x => (k0_pay150 v6 v9 v10 v323 v339 v340 v342 v343 v345 x.1,
      k0_pay148 v6 v9 v10 v323 v339 v340 v342 v343 v345 k x.1 x.2.1, k0_pay149 k x.1 x.2.2)) (fun _ _ => rfl)]
  rw [show Scf.Loop.for k0_t2_loop k0_t2_ok (k0_pay2 v6 v9 v10, k0_pay3, k0_pay4 (F := F))
      (k0_t2_body (F := F) i M1 h1 M2 h2 M3 h3 M4 h4 M5 h5) = .ret (scanAll v6 v9 v10) from
    Scf.for_pure _ _ _ _ _ _ (fun k x => (k0_pay10 x.1, k0_pay8 k x.1 x.2.1, k0_pay9 k x.1 x.2.2)) (fun _ _ => rfl)]
  unfold knn8 flag
  generalize scan v6 v9 v10 v323 v324 v339 v340 v342 v343 v344 v345 = f
  generalize scanAll v6 v9 v10 = f'
  by_cases h : (Scalar.cmpi .ne (Scalar.extui (Scalar.cmpf .ogt (k0_pay1 (k0_pay151 v6 v9 v10 v324 v340 v344 v345 f.2.2) k0_pay152 (k0_pay153 (F := F)))
      (Scalar.ofBits .f32 0x00000000#32))) (0#32 : BitVec 32)) = 1#1
  · rw [if_pos h]
    refine Eq.trans (b := (do let (a, b) ← if (Scalar.cmpi .ne (Scalar.extui (Scalar.cmpf .ogt (k0_pay1 (k0_pay151 v6 v9 v10 v324 v340 v344 v345 f.2.2) k0_pay152 (k0_pay153 (F := F)))
      (Scalar.ofBits .f32 0x00000000#32))) (0#32 : BitVec 32)) = 1#1 then pure f'.2 else pure f.2
                              finish M3 M4 (a, b))) rfl ?_
    rw [if_pos h]; rfl
  · rw [if_neg h]
    refine Eq.trans (b := (do let (a, b) ← if (Scalar.cmpi .ne (Scalar.extui (Scalar.cmpf .ogt (k0_pay1 (k0_pay151 v6 v9 v10 v324 v340 v344 v345 f.2.2) k0_pay152 (k0_pay153 (F := F)))
      (Scalar.ofBits .f32 0x00000000#32))) (0#32 : BitVec 32)) = 1#1 then pure f'.2 else pure f.2
                              finish M3 M4 (a, b))) rfl ?_
    rw [if_neg h]; rfl

/-- The whole body: its first part, then the two results stored. -/
theorem kernel_eq (i : grid0.Coords) (M1 : Memref sig .tc .vmem S128x64 .f32) (h1 : M1.IsWhole) (M2 : Memref sig .tc .vmem S16384x64 .f32) (h2 : M2.IsWhole)
    (M3 : Memref sig .tc .vmem S128x16 .i32) (h3 : M3.IsWhole) (M4 : Memref sig .tc .vmem S128x16 .f32) (h4 : M4.IsWhole)
    (M5 : Memref sig .tc .vmem S1x16384 .f32) (h5 : M5.IsWhole) :
    cc0__knn_block_kernel (F := F) i M1 h1 M2 h2 M3 h3 M4 h4 M5 h5
      = k0_part1_skel i M1 h1 M2 h2 M3 h3 M4 h4 M5 h5 >>= fun x => finish M3 M4 (knn2 x.1 x.2.1 x.2.2.1 x.2.2.2.1 x.2.2.2.2.1
          x.2.2.2.2.2.1 x.2.2.2.2.2.2.1 x.2.2.2.2.2.2.2.1 x.2.2.2.2.2.2.2.2.1 x.2.2.2.2.2.2.2.2.2.1 x.2.2.2.2.2.2.2.2.2.2.1
          x.2.2.2.2.2.2.2.2.2.2.2) := by
  rw [cc0__knn_block_kernel_eq_skeleton]; unfold cc0__knn_block_kernel_skel
  rw [k0_part1_eq_skeleton, k0_part2_eq_skeleton, k0_part3_eq_skeleton, k0_part4_eq_skeleton, k0_part5_eq_skeleton, k0_part6_eq_skeleton, k0_part7_eq_skeleton, k0_part8_eq_skeleton]
  refine congrArg (Bind.bind (k0_part1_skel i M1 h1 M2 h2 M3 h3 M4 h4 M5 h5)) (funext fun ⟨v6, v9, v10, v21, v22, v23, v24, v25, v36, v37, v38, c1⟩ => ?_)
  unfold knn2 knn3 knn4 knn5 knn6 knn7
  exact tail8 i M1 h1 M2 h2 M3 h3 M4 h4 M5 h5 v6 v9 v10 _ _ _ _ _ _ _ _
/-- Whether this is the first grid point, as the body tests it. -/
abbrev isFirst (i : grid0.Coords) : Prop :=
  (Scalar.cmpi .ne (Scalar.extui (Scalar.cmpi .eq (BitVec.ofNat 32 (i 0).val) (0#32 : BitVec 32))) (0#32 : BitVec 32)) = 1#1

theorem hz2 : (![0, 0] : Fin 2 → Nat) = fun _ => 0 := by decide

/-- A load of a whole buffer reads its contents. -/
theorem readAt_zero {Val : EltTy → Type} {κ : Kind} {sp : Space} {S : Shape} {e : EltTy} (v : View sig κ sp S e)
    {off : Fin S.rank → Nat} (h : off = fun _ => 0) (inb : ∀ a, off a + S.size a ≤ S.size a) (f : v.ty.Contents Val) :
    v.readAt Val (Rect.unit off S.size inb).toLoadRect f = v.read Val f :=
  View.ld_unit_zero h inb (v.read Val f)

/-- A store of a whole buffer leaves what it stored. -/
theorem read_writes_zero {Val : EltTy → Type} {κ : Kind} {sp : Space} {S : Shape} {e : EltTy} (v : View sig κ sp S e)
    {off : Fin S.rank → Nat} (h : off = fun _ => 0) (inb : ∀ a, off a + S.size a ≤ S.size a)
    (w : S.Idx → Val e) (f : v.ty.Contents Val) :
    v.read Val (v.writes Val f [⟨Rect.unit off S.size inb, w⟩]) = w := by
  subst h
  exact View.read_writes_whole v f w

/-- The body at the first point: it fills the scratch with the squared lengths. -/
theorem run_first (c : Dev nD) (i : grid0.Coords)
    (M1 : Memref sig .tc .vmem S128x64 .f32) (h1 : M1.IsWhole) (M2 : Memref sig .tc .vmem S16384x64 .f32) (h2 : M2.IsWhole)
    (M3 : Memref sig .tc .vmem S128x16 .i32) (h3 : M3.IsWhole) (M4 : Memref sig .tc .vmem S128x16 .f32) (h4 : M4.IsWhole)
    (M5 : Memref sig .tc .vmem S1x16384 .f32) (h5 : M5.IsWhole)
    (x0 : Vec F S128x64 .f32) (x1 : Vec F S16384x64 .f32) (d3 : Vec F S128x16 .i32) (d4 : Vec F S128x16 .f32) (d5 : Vec F S1x16384 .f32)
    (hc : isFirst i) (E : Set ℕ) (Q : PUnit → sProp 𝕄) :
    iprop(owns (c : Thread nD τ) M1 fullShare x0 ∗ owns (c : Thread nD τ) M2 fullShare x1
        ∗ owns (c : Thread nD τ) M3 fullShare d3 ∗ owns (c : Thread nD τ) M4 fullShare d4
        ∗ owns (c : Thread nD τ) M5 fullShare d5
        ∗ (iprop(owns (c : Thread nD τ) M1 fullShare x0 ∗ owns (c : Thread nD τ) M2 fullShare x1
            ∗ owns (c : Thread nD τ) M3 fullShare (knn x0 x1 (k0_pay11 x1)).1 ∗ owns (c : Thread nD τ) M4 fullShare (knn x0 x1 (k0_pay11 x1)).2
            ∗ owns (c : Thread nD τ) M5 fullShare (k0_pay11 x1)) -∗ Q ⟨⟩))
      ⊢ wp frame (wpE (defs₀ (F := F)) Variants.none c none) E
          (cc0__knn_block_kernel (F := F) i M1 h1 M2 h2 M3 h3 M4 h4 M5 h5) Q := by
  rw [kernel_eq]; unfold finish owns
  iintro ⟨⟨%f1, %e1, H1⟩, ⟨%f2, %e2, H2⟩, ⟨%f3, -, H3⟩, ⟨%f4, -, H4⟩, ⟨%f5, %e5, H5⟩, Hk⟩
  sl_exec
  sl_step
  have L1 := (readAt_zero M1.view hz2 inb_S128x64_S128x64_0_0 f1).trans e1
  have L2 := (readAt_zero M2.view hz2 inb_S16384x64_S16384x64_0_0 f2).trans e2
  have LK : knn (M1.view.readAt (Elt F) (Rect.unit ![0, 0] S128x64.size inb_S128x64_S128x64_0_0).toLoadRect f1)
      (M2.view.readAt (Elt F) (Rect.unit ![0, 0] S16384x64.size inb_S16384x64_S16384x64_0_0).toLoadRect f2)
      (M5.view.readCov [⟨Rect.unit ![0, 0] S1x16384.size inb_S1x16384_S1x16384_0_0,
        k0_pay11 (M2.view.readAt (Elt F) (Rect.unit ![0, 0] S16384x64.size inb_S16384x64_S16384x64_0_0).toLoadRect f2)⟩]
        (Rect.unit ![0, 0] S1x16384.size inb_S1x16384_S1x16384_0_0).toLoadRect) = knn x0 x1 (k0_pay11 x1) := by
    rw [View.readCov_unit_zero M5.view hz2, L1, L2]
  iapply Hk
  isplitl [H1]
  · iexists f1; isplitr
    · ipureintro; exact e1
    · iexact H1
  isplitl [H2]
  · iexists f2; isplitr
    · ipureintro; exact e2
    · iexact H2
  isplitl [H3]
  · iexists _; isplitr; swap
    · iexact H3
    · ipureintro
      refine (read_writes_zero M3.view hz2 inb_S128x16_S128x16_0_0 _ f3).trans ?_
      exact congrArg Prod.fst LK
  isplitl [H4]
  · iexists _; isplitr; swap
    · iexact H4
    · ipureintro
      refine (read_writes_zero M4.view hz2 inb_S128x16_S128x16_0_0 _ f4).trans ?_
      exact congrArg Prod.snd LK
  · iexists _; isplitr; swap
    · iexact H5
    · ipureintro
      refine (read_writes_zero M5.view hz2 inb_S1x16384_S1x16384_0_0 _ f5).trans ?_
      rw [L2]

/-- The body at a later point: the scratch already holds the squared lengths. -/
theorem run_later (c : Dev nD) (i : grid0.Coords)
    (M1 : Memref sig .tc .vmem S128x64 .f32) (h1 : M1.IsWhole) (M2 : Memref sig .tc .vmem S16384x64 .f32) (h2 : M2.IsWhole)
    (M3 : Memref sig .tc .vmem S128x16 .i32) (h3 : M3.IsWhole) (M4 : Memref sig .tc .vmem S128x16 .f32) (h4 : M4.IsWhole)
    (M5 : Memref sig .tc .vmem S1x16384 .f32) (h5 : M5.IsWhole)
    (x0 : Vec F S128x64 .f32) (x1 : Vec F S16384x64 .f32) (d3 : Vec F S128x16 .i32) (d4 : Vec F S128x16 .f32) (d5 : Vec F S1x16384 .f32)
    (hc : ¬ isFirst i) (E : Set ℕ) (Q : PUnit → sProp 𝕄) :
    iprop(owns (c : Thread nD τ) M1 fullShare x0 ∗ owns (c : Thread nD τ) M2 fullShare x1
        ∗ owns (c : Thread nD τ) M3 fullShare d3 ∗ owns (c : Thread nD τ) M4 fullShare d4
        ∗ owns (c : Thread nD τ) M5 fullShare (k0_pay11 x1)
        ∗ (iprop(owns (c : Thread nD τ) M1 fullShare x0 ∗ owns (c : Thread nD τ) M2 fullShare x1
            ∗ owns (c : Thread nD τ) M3 fullShare (knn x0 x1 (k0_pay11 x1)).1 ∗ owns (c : Thread nD τ) M4 fullShare (knn x0 x1 (k0_pay11 x1)).2
            ∗ owns (c : Thread nD τ) M5 fullShare (k0_pay11 x1)) -∗ Q ⟨⟩))
      ⊢ wp frame (wpE (defs₀ (F := F)) Variants.none c none) E
          (cc0__knn_block_kernel (F := F) i M1 h1 M2 h2 M3 h3 M4 h4 M5 h5) Q := by
  rw [kernel_eq]; unfold finish owns
  iintro ⟨⟨%f1, %e1, H1⟩, ⟨%f2, %e2, H2⟩, ⟨%f3, -, H3⟩, ⟨%f4, -, H4⟩, ⟨%f5, %e5, H5⟩, Hk⟩
  sl_exec
  sl_step
  have L1 := (readAt_zero M1.view hz2 inb_S128x64_S128x64_0_0 f1).trans e1
  have L2 := (readAt_zero M2.view hz2 inb_S16384x64_S16384x64_0_0 f2).trans e2
  have L5 := (readAt_zero M5.view hz2 inb_S1x16384_S1x16384_0_0 f5).trans e5
  have LK : knn (M1.view.readAt (Elt F) (Rect.unit ![0, 0] S128x64.size inb_S128x64_S128x64_0_0).toLoadRect f1)
      (M2.view.readAt (Elt F) (Rect.unit ![0, 0] S16384x64.size inb_S16384x64_S16384x64_0_0).toLoadRect f2)
      (M5.view.readAt (Elt F) (Rect.unit ![0, 0] S1x16384.size inb_S1x16384_S1x16384_0_0).toLoadRect f5) = knn x0 x1 (k0_pay11 x1) := by
    rw [L1, L2, L5]
  iapply Hk
  isplitl [H1]
  · iexists f1; isplitr
    · ipureintro; exact e1
    · iexact H1
  isplitl [H2]
  · iexists f2; isplitr
    · ipureintro; exact e2
    · iexact H2
  isplitl [H3]
  · iexists _; isplitr; swap
    · iexact H3
    · ipureintro
      refine (read_writes_zero M3.view hz2 inb_S128x16_S128x16_0_0 _ f3).trans ?_
      exact congrArg Prod.fst LK
  isplitl [H4]
  · iexists _; isplitr; swap
    · iexact H4
    · ipureintro
      refine (read_writes_zero M4.view hz2 inb_S128x16_S128x16_0_0 _ f4).trans ?_
      exact congrArg Prod.snd LK
  · iexists _; isplitr; swap
    · iexact H5
    · ipureintro
      exact e5

end Cert.KernelIdeal.Hand

end
-- ==== Proof.KernelIdeal.Run.lean ====
/-
  The launch: what the scratch holds between grid points, the body's obligation at a point, and the run of the whole
  program from any memory.
-/
module

public import proofs.«01_k».proof.Proof.KernelIdeal.Body
public import proofs.«01_k».proof.Proof.Gen.KernelIdeal.Points

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The whole array of points, as the second window shows it. -/
def pts (c : Dev nD) : Vec F S16384x64 .f32 := iblk m c 1 ⟨0, by rw [show cfg0.N = 128 from N_0]; omega⟩

/-- The second window is on the whole array at every point. -/
theorem iblk_one (c : Dev nD) (t : Fin cfg0.N) : iblk m c 1 t = pts m c := rfl

/-- What point `t` computes: its 128 rows of indices and of distances. -/
def outs (c : Dev nD) (t : Fin cfg0.N) : Vec F S128x16 .i32 × Vec F S128x16 .f32 :=
  knn (iblk m c 0 t) (pts m c) (k0_pay11 (pts m c))

/-- What the scratch holds once the first point has run. -/
def held (c : Dev nD) : sProp 𝕄 :=
  iprop(owns (c : Thread nD τ) (Memref.whole cc0_scratch0) fullShare (k0_pay11 (pts m c)) ∗ ∃ r, prngReg c r)

/-- The proof data of the launch. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => pts m c
    | ⟨2, _⟩ => (outs m c t).1
    | ⟨3, _⟩ => (outs m c t).2
  Φ t := if t.val = 0 then Pipeline.ΦA spec0 c else held m c
  q w := Pipeline.shareOf spec0 w
  owed _ := 0

theorem A_eq (c : Dev nD) (w : Fin cfg0.W) : (dats m 0 c).A w = V m c (Pipeline.arrRef spec0 w) := rfl

theorem after0_0 (c : Dev nD) (t : Fin cfg0.N) : (dats m 0 c).after 0 t = iblk m c 0 t := by dsimp only [dats]
theorem after0_1 (c : Dev nD) (t : Fin cfg0.N) : (dats m 0 c).after 1 t = pts m c := by dsimp only [dats]
theorem after0_2 (c : Dev nD) (t : Fin cfg0.N) : (dats m 0 c).after 2 t = (outs m c t).1 := by dsimp only [dats]
theorem after0_3 (c : Dev nD) (t : Fin cfg0.N) : (dats m 0 c).after 3 t = (outs m c t).2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = pts m c :=
  (before0_1_of m (dats m 0 c) (A_eq m c 1) (fun t => (after0_1 m c t).trans (iblk_one m c t).symm) t d).trans (iblk_one m c t)

theorem Phi_zero (c : Dev nD) (t : Fin (cfg0.N + 1)) (h : t.val = 0) : (dats m 0 c).Φ t = Pipeline.ΦA spec0 c := by
  dsimp only [dats]; rw [if_pos h]
theorem Phi_pos (c : Dev nD) (t : Fin (cfg0.N + 1)) (h : ¬ t.val = 0) : (dats m 0 c).Φ t = held m c := by
  dsimp only [dats]; rw [if_neg h]

/-- The one coordinate of a grid point is its number. -/
theorem coords_val (t : Fin grid0.N) : ((grid0.coords t) 0).val = t.val := by
  have ht : t.val < 128 := N_0 ▸ t.isLt
  refine (Pipeline.Grid.coords_val (S := 1) (B := 128) t 0 (by decide) (by decide)).trans ?_
  omega

/-- Only point 0 takes the branch that fills the scratch. -/
theorem isFirst_iff (t : Fin grid0.N) : isFirst (grid0.coords t) ↔ t.val = 0 := by
  have ht : t.val < 128 := N_0 ▸ t.isLt
  unfold isFirst
  rw [coords_val]
  constructor
  · intro h
    by_contra hne
    have hb : (BitVec.ofNat 32 t.val : BitVec 32) ≠ 0#32 := fun hh => hne (by
      have := congrArg BitVec.toNat hh
      simp only [BitVec.toNat_ofNat] at this
      omega)
    have e : Scalar.cmpi .eq (BitVec.ofNat 32 t.val) (0#32 : BitVec 32) = 0#1 := by
      simp only [Scalar.cmpi, IntOp.cmpi]
      rw [beq_eq_false_iff_ne.mpr hb]; rfl
    rw [e] at h; revert h; decide
  · intro h; rw [h]; decide

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the first fills the scratch, the later ones find it filled. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [Phi_pos m c t.succ (by simp), after0_0, after0_1, after0_2, after0_3,
    show (dats m 0 c).owesAt () t.succ = (dats m 0 c).owesAt () t.castSucc from rfl]
  unfold held
  by_cases h0 : t.val = 0
  · rw [Phi_zero m c t.castSucc h0]
    unfold Pipeline.ΦA
    rw [scopedRest0_eq]
    iintro ⟨⟨⟨%f5, H5⟩, HP⟩, Ho, ⟨%d0, H0⟩, ⟨%d1, H1⟩, ⟨%d2, H2⟩, ⟨%d3, H3⟩⟩
    iapply (run_first c (grid0.coords t) _ _ _ _ _ _ _ _ _ _ (iblk m c 0 t) (pts m c) _ _ _ ((isFirst_iff t).mpr h0) Set.univ _)
    isplitl [H0]; · iexact H0
    isplitl [H1]; · iexact H1
    isplitl [H2]; · iexact H2
    isplitl [H3]; · iexact H3
    isplitl [H5]
    · rw [owns_whole]; iexact H5
    iintro ⟨H0, H1, H2, H3, H5⟩
    isplitl [H5 HP]
    · isplitl [H5]; · iexact H5
      iexact HP
    isplitl [Ho]; · iexact Ho
    isplitl [H0]; · iexact H0
    isplitl [H1]; · iexact H1
    isplitl [H2]; · iexact H2
    iexact H3
  · rw [Phi_pos m c t.castSucc h0]
    unfold held
    iintro ⟨⟨H5, HP⟩, Ho, ⟨%d0, H0⟩, ⟨%d1, H1⟩, ⟨%d2, H2⟩, ⟨%d3, H3⟩⟩
    iapply (run_later c (grid0.coords t) _ _ _ _ _ _ _ _ _ _ (iblk m c 0 t) (pts m c) _ _ (k0_pay11 (pts m c)) (fun h => h0 ((isFirst_iff t).mp h)) Set.univ _)
    isplitl [H0]; · iexact H0
    isplitl [H1]; · iexact H1
    isplitl [H2]; · iexact H2
    isplitl [H3]; · iexact H3
    isplitl [H5]; · iexact H5
    iintro ⟨H0, H1, H2, H3, H5⟩
    isplitl [H5 HP]
    · isplitl [H5]; · iexact H5
      iexact HP
    isplitl [Ho]; · iexact Ho
    isplitl [H0]; · iexact H0
    isplitl [H1]; · iexact H1
    isplitl [H2]; · iexact H2
    iexact H3

/-- The body table's row at point `t`'s slots is the body. -/
theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the scratch holds after the last point is given up. -/
theorem held_out (c : Dev nD) : held m c ⊢ (Pipeline.ΦA spec0 c : sProp 𝕄) := by
  unfold held Pipeline.ΦA
  rw [scopedRest0_eq, owns_whole]
  iintro ⟨H5, HP⟩
  isplitl [H5]
  · iexists _; iexact H5
  · iexact HP

/-- Every execution of the program ends, with every array at what the points' blocks leave in it, every other buffer
    at what the host's operations compute from those, and every counter at zero. -/
theorem run : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track_shared (Q' := _) cfgs (dats m) (0 : Fin 1) launch₀0 defs₀ Variants.none m ρ main
    (hbody := fun c => (body_obligation m c).loose) (hq := fun _ _ _ => rfl) (howed := fun _ _ => rfl)
    (V₀ := V0 m) (opss := [hostOps1]) (hsub := sfx_sub) (hfresh := sfx_fresh) (hkeep := sfx_keeps)
    (hmain := hmain m Variants.none) (hA := A_eq m)
    (hin := fun c => by rw [Phi_zero m c 0 rfl])
    (hout := fun c => by rw [Phi_pos m c _ (by rw [Fin.val_last]; rw [show cfg0.N = 128 from N_0]; omega)]; exact held_out m c)
    (hQ' := fun _ h => h)

/-- The argument array is untouched and every counter is back at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  (θ_run defs _ _).mono (fun _ h => ⟨fun c => ((h.1 c).1 1).trans (((dats m 0 c).arrAt_in 1 rfl _).trans
    ((A_eq m c 1).trans (V_main_arg0 m c))), h.2⟩) (run m ρ)

end Cert.KernelIdeal.Hand

end
-- ==== Proof.Ref.Quiet.lean ====
/-
  The reference run on its own: it has no semaphore, so its frame is its run.
-/
module

public import proofs.«01_k».proof.Defs
public import proofs.«01_k».proof.Proof.Gen.ReferenceIdeal.Run

@[expose] public section

noncomputable section

namespace Cert.ReferenceIdeal.Hand

open Idealize.ShloMosaic Idealize.SL.Sem

/-- The reference's argument ends unchanged, and every counter (there is none) at zero. -/
theorem quiescent : Cert.quiescent_ReferenceIdeal (hReferenceIdeal := Cert.ReferenceIdeal.Gen.facts) := by
  intro m g _
  refine (θ_run _ _ _).mono (fun r h => ⟨fun c => (h c).2.2, ?_⟩) (Cert.ReferenceIdeal.Value.run (F := Ideal) m g)
  funext x
  obtain ⟨⟨d, k⟩, s⟩ := x
  cases k <;> cases s
  all_goals (rename_i i; exact Fin.elim0 i)

end Cert.ReferenceIdeal.Hand

end
-- ==== Proof.Value.Steps.lean ====
/-
  The fold over the sixteen members as one step repeated, and the block's results from its last state.
-/
module

public import proofs.«01_k».proof.Proof.KernelIdeal.Body

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F]

/-- What the fold over the sixteen members carries, per row and lane: the least distance and its member, the second
    least and its member, and the least of those dropped. -/
structure St (F : FTy → Type) where
  lo : FVec F S128x1024 .f32
  loj : IVec S128x1024 32
  hi : FVec F S128x1024 .f32
  hij : IVec S128x1024 32
  m3 : FVec F S128x1024 .f32

theorem memFits (k : Fin 16) : S128x16384.Slices ![0, 1024 * k.val] S128x1024 := by
  revert k; decide

theorem memFits1 (k : Fin 16) : S16384.Slices ![1024 * k.val] S1024 := by
  revert k; decide

/-- The distances of member `k`: lane `l` holds those to row `1024 k + l`. -/
def mem (v6 : FVec F S16384 .f32) (v9 : FVec F S128x16384 .f32) (v10 : FVec F S128x1 .f32) (k : Fin 16) : FVec F S128x1024 .f32 :=
  maximumf (addf (subf (broadcastTo S128x1024 v10 broadcasts_S128x1_S128x1024)
      (mulf (broadcast S128x1024 (Scalar.ofBits .f32 0x40000000#32)) (extractStridedSlice S128x1024 ![0, 1024 * k.val] v9 (memFits k))))
    (broadcastTo S128x1024 (shapeCast S1x1024 (extractStridedSlice S1024 ![1024 * k.val] v6 (memFits1 k)) shapeCasts_S1024_S1x1024) broadcasts_S1x1024_S128x1024))
    (broadcast S128x1024 (Scalar.ofBits .f32 0x00000000#32))

/-- Where a new distance is below the least. -/
def isl (v : FVec F S128x1024 .f32) (s : St F) : IVec S128x1024 1 := cmpf .olt v s.lo
/-- The larger of a new distance and the least, -/
def dem (v : FVec F S128x1024 .f32) (s : St F) : FVec F S128x1024 .f32 := select (isl v s) s.lo v
/-- and its member. -/
def demj (j : BitVec 32) (v : FVec F S128x1024 .f32) (s : St F) : IVec S128x1024 32 :=
  select (isl v s) s.loj (broadcast S128x1024 j)
/-- Where that one is below the second least. -/
def ish (v : FVec F S128x1024 .f32) (s : St F) : IVec S128x1024 1 := cmpf .olt (dem v s) s.hi
/-- The one dropped. -/
def loser (v : FVec F S128x1024 .f32) (s : St F) : FVec F S128x1024 .f32 := select (ish v s) s.hi (dem v s)

/-- One step of the fold, at the distances `v` of member `j`. -/
def step (j : BitVec 32) (v : FVec F S128x1024 .f32) (s : St F) : St F where
  lo := select (isl v s) v s.lo
  loj := select (isl v s) (broadcast S128x1024 j) s.loj
  hi := select (ish v s) (dem v s) s.hi
  hij := select (ish v s) (demj j v s) s.hij
  m3 := minimumf s.m3 (loser v s)

section Parts
variable (v6 : FVec F S16384 .f32) (v9 : FVec F S128x16384 .f32) (v10 : FVec F S128x1 .f32)

/-- The step of member `k`. -/
def stp (k : Fin 16) (s : St F) : St F := step (BitVec.ofNat 32 k.val) (mem v6 v9 v10 k) s

/-- The candidates' distances: the two least of every lane. -/
def cand (s : St F) : FVec F S128x2048 .f32 :=
  concatenate S128x2048 1 [⟨S128x1024, s.lo⟩, ⟨S128x1024, s.hi⟩] concatenates_S128x1024_S128x1024_S128x2048_d1

/-- The row a lane's member stands for. -/
def rowOf (j : IVec S128x1024 32) : IVec S128x1024 32 :=
  addi (muli j (broadcast S128x1024 1024#32)) (iota .tc S128x1024 32 [1] iota_S128x1024_d1_w32)

/-- The candidates' rows. -/
def candIdx (s : St F) : IVec S128x2048 32 :=
  concatenate S128x2048 1 [⟨S128x1024, rowOf s.loj⟩, ⟨S128x1024, rowOf s.hij⟩] concatenates_S128x1024_S128x1024_S128x2048_d1

/-- Where a dropped distance is not above the largest one found. -/
def close (s : St F) (d : FVec F S128x16 .f32) : IVec S128x1024 1 :=
  cmpf .ole s.m3 (broadcastTo S128x1024 (shapeCast S128x1 (multiReduction .maximumf [1] S128 d 0xFF800000#32 reduces_S128x16_S128 (.inl rfl) rfl) shapeCasts_S128_S128x1) broadcasts_S128x1_S128x1024)

/-- A row's least entry. -/
def cmin (x : FVec F S128x2048 .f32) : FVec F S128 .f32 :=
  multiReduction .minimumf [1] S128 x 0x7F800000#32 reduces_S128x2048_S128 (.inl rfl) rfl

/-- The entries equal to their row's least. -/
def ceq (x : FVec F S128x2048 .f32) : IVec S128x2048 1 :=
  cmpf .oeq x (broadcastTo S128x2048 (shapeCast S128x1 (cmin x) shapeCasts_S128_S128x1) broadcasts_S128x1_S128x2048)

/-- The least row number among those. -/
def cidx (idx : IVec S128x2048 32) (x : FVec F S128x2048 .f32) : IVec S128 32 :=
  multiReductionI .minsi [1] S128 (select (ceq x) idx (broadcast S128x2048 2147483647#32)) 2147483647#32 reduces_S128x2048_S128 rfl

/-- The entries with that one at infinity. -/
def cset (idx : IVec S128x2048 32) (x : FVec F S128x2048 .f32) : FVec F S128x2048 .f32 :=
  select (andi (ceq x) (cmpi .eq idx (broadcastTo S128x2048 (shapeCast S128x1 (cidx idx x) shapeCasts_S128_S128x1) broadcasts_S128x1_S128x2048)))
    (broadcast S128x2048 (Scalar.ofBits .f32 0x7F800000#32)) x

/-- A column vector written at column `p`. -/
def put {α : Type} (p : BitVec 32) (x : S128.Idx → α) (a : S128x16.Idx → α) : S128x16.Idx → α :=
  select (cmpi .eq (iota .tc S128x16 32 [1] iota_S128x16_d1_w32) (broadcast S128x16 p))
    (broadcastTo S128x16 (shapeCast S128x1 (shapeCast S128x1 x shapeCasts_S128_S128x1) shapeCasts_S128x1_S128x1) broadcasts_S128x1_S128x16) a

/-- The extraction of sixteen from the candidates. -/
def extract (idx : IVec S128x2048 32) (x : FVec F S128x2048 .f32) : FVec F S128x2048 .f32 × IVec S128x16 32 × FVec F S128x16 .f32 :=
  Scf.fold (n := k0_t1_loop.trips) (fun k y => (cset idx y.1, put (Scf.iv 0#32 1#32 k) (cidx idx y.1) y.2.1, put (Scf.iv 0#32 1#32 k) (cmin y.1) y.2.2))
    (x, broadcast S128x16 0#32, broadcast S128x16 (Scalar.ofBits .f32 0x00000000#32))

/-- The two results of a block from the fold's last state. -/
def result (s : St F) : IVec S128x16 32 × FVec F S128x16 .f32 :=
  if flag (close s (extract (candIdx s) (cand s)).2.2) (k0_pay152 (F := F)) (k0_pay153 (F := F)) = 1#1
  then (scanAll v6 v9 v10).2 else (extract (candIdx s) (cand s)).2

theorem knn8_eq (s : St F) : knn8 v6 v9 v10 (stp v6 v9 v10 13 s).hij (stp v6 v9 v10 13 s).m3
      (demj 14#32 (mem v6 v9 v10 14) (stp v6 v9 v10 13 s)) (stp v6 v9 v10 14 (stp v6 v9 v10 13 s)).lo
      (stp v6 v9 v10 14 (stp v6 v9 v10 13 s)).loj (ish (mem v6 v9 v10 14) (stp v6 v9 v10 13 s))
      (loser (mem v6 v9 v10 14) (stp v6 v9 v10 13 s)) (stp v6 v9 v10 14 (stp v6 v9 v10 13 s)).hi
    = result v6 v9 v10 (stp v6 v9 v10 15 (stp v6 v9 v10 14 (stp v6 v9 v10 13 s))) := by
  generalize stp v6 v9 v10 13 s = s
  rfl

theorem knn7_eq (s : St F) : knn7 v6 v9 v10 s.loj s.hi s.hij s.m3 (isl (mem v6 v9 v10 12) s) (dem (mem v6 v9 v10 12) s)
      (demj 12#32 (mem v6 v9 v10 12) s) (stp v6 v9 v10 12 s).lo
    = result v6 v9 v10 (stp v6 v9 v10 15 (stp v6 v9 v10 14 (stp v6 v9 v10 13 (stp v6 v9 v10 12 s)))) :=
  (show _ = _ from rfl : knn7 v6 v9 v10 s.loj s.hi s.hij s.m3 (isl (mem v6 v9 v10 12) s) (dem (mem v6 v9 v10 12) s)
      (demj 12#32 (mem v6 v9 v10 12) s) (stp v6 v9 v10 12 s).lo = knn8 v6 v9 v10 (stp v6 v9 v10 13 (stp v6 v9 v10 12 s)).hij
      (stp v6 v9 v10 13 (stp v6 v9 v10 12 s)).m3
      (demj 14#32 (mem v6 v9 v10 14) (stp v6 v9 v10 13 (stp v6 v9 v10 12 s))) (stp v6 v9 v10 14 (stp v6 v9 v10 13 (stp v6 v9 v10 12 s))).lo
      (stp v6 v9 v10 14 (stp v6 v9 v10 13 (stp v6 v9 v10 12 s))).loj (ish (mem v6 v9 v10 14) (stp v6 v9 v10 13 (stp v6 v9 v10 12 s)))
      (loser (mem v6 v9 v10 14) (stp v6 v9 v10 13 (stp v6 v9 v10 12 s))) (stp v6 v9 v10 14 (stp v6 v9 v10 13 (stp v6 v9 v10 12 s))).hi).trans
  (knn8_eq v6 v9 v10 _)

theorem knn6_eq (s : St F) : knn6 v6 v9 v10 s.lo s.loj s.hi s.hij s.m3 (mem v6 v9 v10 10)
    = knn7 v6 v9 v10 (stp v6 v9 v10 11 (stp v6 v9 v10 10 s)).loj (stp v6 v9 v10 11 (stp v6 v9 v10 10 s)).hi
      (stp v6 v9 v10 11 (stp v6 v9 v10 10 s)).hij (stp v6 v9 v10 11 (stp v6 v9 v10 10 s)).m3
      (isl (mem v6 v9 v10 12) (stp v6 v9 v10 11 (stp v6 v9 v10 10 s))) (dem (mem v6 v9 v10 12) (stp v6 v9 v10 11 (stp v6 v9 v10 10 s)))
      (demj 12#32 (mem v6 v9 v10 12) (stp v6 v9 v10 11 (stp v6 v9 v10 10 s))) (stp v6 v9 v10 12 (stp v6 v9 v10 11 (stp v6 v9 v10 10 s))).lo := rfl

theorem knn5_eq (s : St F) : knn5 v6 v9 v10 s.lo s.loj s.hi s.hij s.m3
      (subf (broadcastTo S128x1024 v10 broadcasts_S128x1_S128x1024)
        (mulf (broadcast S128x1024 (Scalar.ofBits .f32 0x40000000#32)) (extractStridedSlice S128x1024 ![0, 8192] v9 slices_S128x16384_o0_8192_S128x1024)))
      (extractStridedSlice S1024 ![8192] v6 slices_S16384_o8192_S1024)
    = knn6 v6 v9 v10 (stp v6 v9 v10 9 (stp v6 v9 v10 8 s)).lo (stp v6 v9 v10 9 (stp v6 v9 v10 8 s)).loj
      (stp v6 v9 v10 9 (stp v6 v9 v10 8 s)).hi (stp v6 v9 v10 9 (stp v6 v9 v10 8 s)).hij
      (stp v6 v9 v10 9 (stp v6 v9 v10 8 s)).m3 (mem v6 v9 v10 10) := rfl

theorem knn4_eq (s : St F) : knn4 v6 v9 v10 s.lo s.loj s.hi s.hij s.m3 (extractStridedSlice S128x1024 ![0, 6144] v9 slices_S128x16384_o0_6144_S128x1024)
    = knn5 v6 v9 v10 (stp v6 v9 v10 7 (stp v6 v9 v10 6 s)).lo (stp v6 v9 v10 7 (stp v6 v9 v10 6 s)).loj
      (stp v6 v9 v10 7 (stp v6 v9 v10 6 s)).hi (stp v6 v9 v10 7 (stp v6 v9 v10 6 s)).hij (stp v6 v9 v10 7 (stp v6 v9 v10 6 s)).m3
      (subf (broadcastTo S128x1024 v10 broadcasts_S128x1_S128x1024)
        (mulf (broadcast S128x1024 (Scalar.ofBits .f32 0x40000000#32)) (extractStridedSlice S128x1024 ![0, 8192] v9 slices_S128x16384_o0_8192_S128x1024)))
      (extractStridedSlice S1024 ![8192] v6 slices_S16384_o8192_S1024) := rfl

theorem knn3_eq (s : St F) : knn3 v6 v9 v10 s.hi s.hij s.m3 (dem (mem v6 v9 v10 3) s) (demj 3#32 (mem v6 v9 v10 3) s)
      (stp v6 v9 v10 3 s).lo (stp v6 v9 v10 3 s).loj
    = knn4 v6 v9 v10 (stp v6 v9 v10 5 (stp v6 v9 v10 4 (stp v6 v9 v10 3 s))).lo (stp v6 v9 v10 5 (stp v6 v9 v10 4 (stp v6 v9 v10 3 s))).loj
      (stp v6 v9 v10 5 (stp v6 v9 v10 4 (stp v6 v9 v10 3 s))).hi (stp v6 v9 v10 5 (stp v6 v9 v10 4 (stp v6 v9 v10 3 s))).hij
      (stp v6 v9 v10 5 (stp v6 v9 v10 4 (stp v6 v9 v10 3 s))).m3
      (extractStridedSlice S128x1024 ![0, 6144] v9 slices_S128x16384_o0_6144_S128x1024) := rfl

theorem knn2_eq (s : St F) : knn2 v6 v9 v10 s.lo s.loj s.hi s.hij s.m3 (mem v6 v9 v10 1) (isl (mem v6 v9 v10 1) s) (dem (mem v6 v9 v10 1) s) 1#32
    = knn3 v6 v9 v10 (stp v6 v9 v10 2 (stp v6 v9 v10 1 s)).hi (stp v6 v9 v10 2 (stp v6 v9 v10 1 s)).hij
      (stp v6 v9 v10 2 (stp v6 v9 v10 1 s)).m3 (dem (mem v6 v9 v10 3) (stp v6 v9 v10 2 (stp v6 v9 v10 1 s)))
      (demj 3#32 (mem v6 v9 v10 3) (stp v6 v9 v10 2 (stp v6 v9 v10 1 s)))
      (stp v6 v9 v10 3 (stp v6 v9 v10 2 (stp v6 v9 v10 1 s))).lo (stp v6 v9 v10 3 (stp v6 v9 v10 2 (stp v6 v9 v10 1 s))).loj := rfl

/-- The state the fold starts from: member 0 is every lane's least. -/
def init : St F where
  lo := mem v6 v9 v10 0
  loj := broadcast S128x1024 0#32
  hi := broadcast S128x1024 (Scalar.ofBits .f32 0x7F800000#32)
  hij := broadcast S128x1024 0#32
  m3 := broadcast S128x1024 (Scalar.ofBits .f32 0x7F800000#32)

/-- The state once members `0 … k` are in. -/
def state : (k : ℕ) → k < 16 → St F
  | 0, _ => init v6 v9 v10
  | k + 1, h => stp v6 v9 v10 ⟨k + 1, h⟩ (state k (by omega))

end Parts

/-- A block's results: the fold over all sixteen members, then the extraction. -/
theorem knn_eq (v0 : Vec F S128x64 .f32) (v1 : Vec F S16384x64 .f32) (v5 : Vec F S1x16384 .f32) :
    knn v0 v1 v5 = result (k0_pay12 v5) (k0_pay13 v0 v1) (k0_pay14 v0) (state (k0_pay12 v5) (k0_pay13 v0 v1) (k0_pay14 v0) 15 (by decide)) := by
  have e : knn v0 v1 v5 = knn2 (k0_pay12 v5) (k0_pay13 v0 v1) (k0_pay14 v0) (init (k0_pay12 v5) (k0_pay13 v0 v1) (k0_pay14 v0)).lo
      (init (k0_pay12 v5) (k0_pay13 v0 v1) (k0_pay14 v0)).loj (init (k0_pay12 v5) (k0_pay13 v0 v1) (k0_pay14 v0)).hi
      (init (k0_pay12 v5) (k0_pay13 v0 v1) (k0_pay14 v0)).hij (init (k0_pay12 v5) (k0_pay13 v0 v1) (k0_pay14 v0)).m3
      (mem (k0_pay12 v5) (k0_pay13 v0 v1) (k0_pay14 v0) 1)
      (isl (mem (k0_pay12 v5) (k0_pay13 v0 v1) (k0_pay14 v0) 1) (init (k0_pay12 v5) (k0_pay13 v0 v1) (k0_pay14 v0)))
      (dem (mem (k0_pay12 v5) (k0_pay13 v0 v1) (k0_pay14 v0) 1) (init (k0_pay12 v5) (k0_pay13 v0 v1) (k0_pay14 v0))) 1#32 := rfl
  rw [e, knn2_eq, knn3_eq, knn4_eq, knn5_eq, knn6_eq, knn7_eq]
  rfl

end Cert.KernelIdeal.Hand

end
-- ==== Proof.Value.Top.lean ====
/-
  Which sixteen of many distances are the least, ties broken by position; that taking a least entry sixteen times finds
  them; and what the fold over the members of one lane keeps.
-/
module

public import Idealize.ShloMosaic.PureOps
public import Idealize.ShloMosaic.PureOps.Ideal.Laws

@[expose] public section

noncomputable section

namespace Cert.Knn

variable {N : ℕ}

/-- Position `a` comes before position `b`: it is nearer, or as near and earlier. -/
def Lex (D : Fin N → EReal) (a b : Fin N) : Prop := D a < D b ∨ (D a = D b ∧ a < b)

/-- `σ` lists, in order, the sixteen positions that come first. -/
structure IsTop (D : Fin N → EReal) (σ : Fin 16 → Fin N) : Prop where
  ord : ∀ i j, i < j → Lex D (σ i) (σ j)
  dom : ∀ i p, (∀ j, σ j ≠ p) → Lex D (σ i) p

theorem Lex.ne {D : Fin N → EReal} {a b : Fin N} (h : Lex D a b) : a ≠ b := by
  rintro rfl
  rcases h with h | h
  · exact lt_irrefl _ h
  · exact lt_irrefl _ h.2

theorem Lex.le {D : Fin N → EReal} {a b : Fin N} (h : Lex D a b) : D a ≤ D b := by
  rcases h with h | h
  · exact le_of_lt h
  · exact le_of_eq h.1

/-- What sixteen rounds of taking a least entry do: from the entries `vals p` round `p` finds the least value `m p`, the
    least position `j p` holding it, and puts that entry at infinity. -/
structure Rounds (n : ℕ) (D : Fin N → EReal) (pos : Fin n → Fin N) (vals : ℕ → Fin n → EReal) (m : ℕ → EReal) (j : ℕ → BitVec 32) : Prop where
  start : ∀ c, vals 0 c = D (pos c)
  least : ∀ p < 16, ∀ c, m p ≤ vals p c
  found : ∀ p < 16, ∃ c, vals p c = m p ∧ j p = BitVec.ofNat 32 (pos c).val
  first : ∀ p < 16, ∀ c, vals p c = m p → (j p).toNat ≤ (pos c).val
  next : ∀ p < 16, ∀ c, vals (p + 1) c = if vals p c = m p ∧ BitVec.ofNat 32 (pos c).val = j p then ⊤ else vals p c

theorem ofNat_inj {a b : ℕ} (ha : a < 2 ^ 32) (hb : b < 2 ^ 32) (h : BitVec.ofNat 32 a = BitVec.ofNat 32 b) : a = b := by
  have := congrArg BitVec.toNat h
  rw [BitVec.toNat_ofNat, BitVec.toNat_ofNat, Nat.mod_eq_of_lt ha, Nat.mod_eq_of_lt hb] at this
  exact this

/-- The rounds find the sixteen first positions among the candidates. -/
theorem Rounds.top {n : ℕ} {D : Fin N → EReal} {pos : Fin n → Fin N} {vals : ℕ → Fin n → EReal} {m : ℕ → EReal} {j : ℕ → BitVec 32}
    (R : Rounds n D pos vals m j) (hinj : Function.Injective pos) (hfin : ∀ p, D p < ⊤) (hn : 16 ≤ n) (hN : N ≤ 2 ^ 31) :
    ∃ c : Fin 16 → Fin n, (∀ p : Fin 16, j p.val = BitVec.ofNat 32 (pos (c p)).val ∧ m p.val = D (pos (c p)))
      ∧ (∀ i k, i < k → Lex D (pos (c i)) (pos (c k))) ∧ ∀ i x, (∀ k, c k ≠ x) → Lex D (pos (c i)) (pos x) := by
  have hf : ∀ p, ∃ c, p < 16 → vals p c = m p ∧ j p = BitVec.ofNat 32 (pos c).val := fun p => by
    by_cases hp : p < 16
    · obtain ⟨c, h⟩ := R.found p hp; exact ⟨c, fun _ => h⟩
    · exact ⟨⟨0, by omega⟩, fun h => absurd h hp⟩
  choose c hc using hf
  have small : ∀ x : Fin N, x.val < 2 ^ 32 := fun x => lt_of_lt_of_le x.isLt (hN.trans (by norm_num))
  -- the entries before round `p`: those taken are at infinity
  have hv : ∀ p, p ≤ 16 → ∀ x, vals p x = if ∃ q, q < p ∧ c q = x then ⊤ else D (pos x) := by
    intro p
    induction p with
    | zero => intro _ x; rw [R.start, if_neg (by rintro ⟨q, hq, -⟩; omega)]
    | succ p ih =>
      intro hp x
      have hp' : p < 16 := by omega
      rw [R.next p hp' x]
      by_cases hx : c p = x
      · subst hx
        rw [if_pos ⟨(hc p hp').1, (hc p hp').2.symm⟩, if_pos ⟨p, by omega, rfl⟩]
      · rw [if_neg, ih (by omega) x]
        · refine if_congr ⟨fun ⟨q, hq, e⟩ => ⟨q, by omega, e⟩, fun ⟨q, hq, e⟩ => ⟨q, ?_, e⟩⟩ rfl rfl
          rcases Nat.lt_succ_iff_lt_or_eq.mp hq with h | h
          · exact h
          · subst h; exact absurd e hx
        · rintro ⟨-, e⟩
          rw [(hc p hp').2] at e
          exact hx (hinj (Fin.ext (ofNat_inj (small _) (small _) e))).symm
  -- an entry not yet taken is at least the round's value, and later if equal
  have key : ∀ p, p < 16 → ∀ x, (∀ q, q < p → c q ≠ x) → m p ≤ D (pos x) ∧ (m p = D (pos x) → (pos (c p)).val ≤ (pos x).val) := by
    intro p hp x hx
    have e : vals p x = D (pos x) := by
      rw [hv p (by omega) x, if_neg]
      rintro ⟨q, hq, e⟩; exact hx q hq e
    refine ⟨e ▸ R.least p hp x, fun h => ?_⟩
    have := R.first p hp x (e.trans h.symm)
    rw [(hc p hp).2, BitVec.toNat_ofNat, Nat.mod_eq_of_lt (small _)] at this
    exact this
  -- the entry a round takes had not been taken
  have fresh : ∀ p, p < 16 → ∀ q, q < p → c q ≠ c p := by
    intro p hp q hq e
    have htop : vals p (c p) = ⊤ := by rw [hv p (by omega), if_pos ⟨q, hq, e⟩]
    obtain ⟨x, hx⟩ : ∃ x, x ∉ (Finset.range p).image c := by
      by_contra hall
      push Not at hall
      have h1 : (Finset.univ : Finset (Fin n)).card ≤ ((Finset.range p).image c).card := Finset.card_le_card fun x _ => hall x
      have h2 : ((Finset.range p).image c).card ≤ (Finset.range p).card := Finset.card_image_le
      rw [Finset.card_univ, Fintype.card_fin] at h1
      rw [Finset.card_range] at h2
      omega
    have h1 := (key p hp x fun q hq e => hx (Finset.mem_image.mpr ⟨q, Finset.mem_range.mpr hq, e⟩)).1
    rw [← (hc p hp).1, htop] at h1
    exact absurd (hfin (pos x)) (not_lt.mpr h1)
  have val : ∀ p, p < 16 → m p = D (pos (c p)) := by
    intro p hp
    rw [← (hc p hp).1, hv p (by omega), if_neg]
    rintro ⟨q, hq, e⟩; exact fresh p hp q hq e
  have lex : ∀ p, p < 16 → ∀ x, (∀ q, q < p → c q ≠ x) → c p ≠ x → Lex D (pos (c p)) (pos x) := by
    intro p hp x hx hne
    obtain ⟨h1, h2⟩ := key p hp x hx
    rw [val p hp] at h1 h2
    rcases lt_or_eq_of_le h1 with h | h
    · exact Or.inl h
    · refine Or.inr ⟨h, lt_of_le_of_ne (h2 h) fun e => hne (hinj e)⟩
  refine ⟨fun p => c p.val, fun p => ⟨(hc p.val p.isLt).2, val p.val p.isLt⟩, fun i k hik => ?_, fun i x hx => ?_⟩
  · refine lex i.val i.isLt _ (fun q hq => ?_) ?_
    · exact fresh k.val k.isLt q (hq.trans hik)
    · exact fresh k.val k.isLt i.val hik
  · exact lex i.val i.isLt x (fun q hq => hx ⟨q, hq.trans i.isLt⟩) (hx i)

/-- What the fold over the members of one lane keeps after member `k`: two different members with their distances, and a
    bound below every other one's. -/
structure Lane (d : ℕ → EReal) (k : ℕ) (lo : EReal) (loj : BitVec 32) (hi : EReal) (hij : BitVec 32) (m3 : EReal) (a b : ℕ) : Prop where
  ha : a ≤ k
  hb : b ≤ k
  hab : a ≠ b
  loj : loj = BitVec.ofNat 32 a
  hij : hij = BitVec.ofNat 32 b
  lo : lo = d a
  hi : hi = d b
  rest : ∀ i ≤ k, i = a ∨ i = b ∨ m3 ≤ d i

/-- The first step: member 1 joins member 0, nothing is dropped. -/
theorem Lane.one {d : ℕ → EReal} (hd : ∀ i, d i < ⊤) :
    ∃ a b, Lane d 1 (if d 1 < d 0 then d 1 else d 0) (if d 1 < d 0 then 1#32 else 0#32)
      (if (if d 1 < d 0 then d 0 else d 1) < ⊤ then (if d 1 < d 0 then d 0 else d 1) else ⊤)
      (if (if d 1 < d 0 then d 0 else d 1) < ⊤ then (if d 1 < d 0 then 0#32 else 1#32) else 0#32)
      (min ⊤ (if (if d 1 < d 0 then d 0 else d 1) < ⊤ then ⊤ else (if d 1 < d 0 then d 0 else d 1))) a b := by
  have ht : (if d 1 < d 0 then d 0 else d 1) < ⊤ := by split <;> exact hd _
  rw [if_pos ht, if_pos ht, if_pos ht]
  by_cases h : d 1 < d 0
  · simp only [if_pos h]
    exact ⟨1, 0, by omega, by omega, by omega, rfl, rfl, rfl, rfl, fun i hi => by omega⟩
  · simp only [if_neg h]
    exact ⟨0, 1, by omega, by omega, by omega, rfl, rfl, rfl, rfl, fun i hi => by omega⟩

/-- A later step: one of the three at hand is dropped, and the bound takes it in. -/
theorem Lane.succ {d : ℕ → EReal} {k : ℕ} {lo hi m3 : EReal} {loj hij : BitVec 32} {a b : ℕ} (L : Lane d k lo loj hi hij m3 a b) :
    ∃ a' b', Lane d (k + 1) (if d (k + 1) < lo then d (k + 1) else lo) (if d (k + 1) < lo then BitVec.ofNat 32 (k + 1) else loj)
      (if (if d (k + 1) < lo then lo else d (k + 1)) < hi then (if d (k + 1) < lo then lo else d (k + 1)) else hi)
      (if (if d (k + 1) < lo then lo else d (k + 1)) < hi then (if d (k + 1) < lo then loj else BitVec.ofNat 32 (k + 1)) else hij)
      (min m3 (if (if d (k + 1) < lo then lo else d (k + 1)) < hi then hi else (if d (k + 1) < lo then lo else d (k + 1)))) a' b' := by
  obtain ⟨ha, hb, hab, rfl, rfl, rfl, rfl, rest⟩ := L
  have fin : ∀ x y z : ℕ, (∀ i, i = a ∨ i = b ∨ i = k + 1 → i = x ∨ i = y ∨ i = z) → ∀ i ≤ k + 1, i = x ∨ i = y ∨ min m3 (d z) ≤ d i := by
    intro x y z hxyz i hi
    by_cases h : i = a ∨ i = b ∨ i = k + 1
    · rcases hxyz i h with h | h | h
      · exact Or.inl h
      · exact Or.inr (Or.inl h)
      · exact Or.inr (Or.inr (h ▸ min_le_right _ _))
    · push Not at h
      rcases rest i (by omega) with h' | h' | h'
      · exact absurd h' h.1
      · exact absurd h' h.2.1
      · exact Or.inr (Or.inr ((min_le_left _ _).trans h'))
  by_cases h1 : d (k + 1) < d a
  · simp only [if_pos h1]
    by_cases h2 : d a < d b
    · simp only [if_pos h2]
      exact ⟨k + 1, a, le_refl _, by omega, by omega, rfl, rfl, rfl, rfl, fin _ _ _ fun i hi => by omega⟩
    · simp only [if_neg h2]
      exact ⟨k + 1, b, le_refl _, by omega, by omega, rfl, rfl, rfl, rfl, fin _ _ _ fun i hi => by omega⟩
  · simp only [if_neg h1]
    by_cases h2 : d (k + 1) < d b
    · simp only [if_pos h2]
      exact ⟨a, k + 1, by omega, le_refl _, by omega, rfl, rfl, rfl, rfl, fin _ _ _ fun i hi => by omega⟩
    · simp only [if_neg h2]
      exact ⟨a, b, by omega, by omega, hab, rfl, rfl, rfl, rfl, fin _ _ _ fun i hi => by omega⟩

end Cert.Knn

end
-- ==== Proof.Value.Row.lean ====
/-
  The block's vector steps read at one row.
-/
module

public import proofs.«01_k».proof.Proof.Value.Steps
public import proofs.«01_k».proof.Proof.Value.Top
public import Idealize.ShloMosaic.Lib.Pointwise
public import Idealize.ShloMosaic.Lib.SortNet.Extract

@[expose] public section

set_option maxRecDepth 16384

noncomputable section

namespace Cert.KernelIdeal.Hand

open Cert.KernelIdeal Cert.KernelIdeal.Gen Cert.Knn
open Idealize.ShloMosaic Idealize.ShloMosaic.TcCoe

theorem ofBits_inf : Ideal.ofBits .f32 0x7F800000#32 = ⊤ := by simp [Ideal.ofBits, Ideal.ieee]

theorem ofBits_neg_inf : Ideal.ofBits .f32 0xFF800000#32 = ⊥ := by simp [Ideal.ofBits, Ideal.ieee]

/-! ### The least of a row, and the first position holding it -/

theorem fold_min_le {n : ℕ} (f : Fin n → EReal) (c : Fin n) : Finset.univ.fold min ⊤ f ≤ f c :=
  (Finset.le_fold_min _).mp le_rfl |>.2 c (Finset.mem_univ c)

theorem fold_min_mem {n : ℕ} (f : Fin n → EReal) (hn : 0 < n) : ∃ c, f c = Finset.univ.fold min ⊤ f := by
  obtain ⟨c, -, hc⟩ := Finset.exists_min_image (Finset.univ : Finset (Fin n)) f ⟨⟨0, hn⟩, Finset.mem_univ _⟩
  exact ⟨c, le_antisymm ((Finset.le_fold_min _).mpr ⟨le_top, fun x hx => hc x hx⟩) (fold_min_le f c)⟩

theorem fold_max_le {ι : Type} [Fintype ι] (f : ι → EReal) (c : ι) : f c ≤ Finset.univ.fold max ⊥ f :=
  (Finset.fold_max_le _).mp le_rfl |>.2 c (Finset.mem_univ c)

/-- The signed least of a family of words, started at `b`: one of them or `b`, and below them all. -/
theorem fold_minsi_spec {ι : Type} [DecidableEq ι] (b : BitVec 32) (f : ι → BitVec 32) (s : Finset ι) :
    (s.fold IntOp.minsi b f = b ∨ ∃ c ∈ s, s.fold IntOp.minsi b f = f c)
      ∧ (s.fold IntOp.minsi b f).toInt ≤ b.toInt ∧ ∀ c ∈ s, (s.fold IntOp.minsi b f).toInt ≤ (f c).toInt := by
  induction s using Finset.induction_on with
  | empty => exact ⟨Or.inl rfl, le_refl _, fun c hc => absurd hc (Finset.notMem_empty c)⟩
  | insert a s ha ih =>
    obtain ⟨h1, h2, h3⟩ := ih
    rw [Finset.fold_insert ha, SortNet.toInt_minsi]
    have hor : IntOp.minsi (f a) (s.fold IntOp.minsi b f) = f a ∨ IntOp.minsi (f a) (s.fold IntOp.minsi b f) = s.fold IntOp.minsi b f := by
      show (if _ then _ else _) = _ ∨ (if _ then _ else _) = _
      split
      · exact Or.inl rfl
      · exact Or.inr rfl
    refine ⟨?_, (min_le_right _ _).trans h2, fun c hc => ?_⟩
    · rcases hor with h | h <;> rw [h]
      · exact Or.inr ⟨a, Finset.mem_insert_self a s, rfl⟩
      · rcases h1 with h1 | ⟨c, hc, h1⟩
        · exact Or.inl h1
        · exact Or.inr ⟨c, Finset.mem_insert_of_mem hc, h1⟩
    · rcases Finset.mem_insert.mp hc with rfl | hc
      · exact min_le_left _ _
      · exact (min_le_right _ _).trans (h3 c hc)

theorem toInt_small {a : ℕ} (ha : a < 2 ^ 31) : (BitVec.ofNat 32 a).toInt = a := by
  rw [BitVec.toInt_eq_toNat_of_lt (by rw [BitVec.toNat_ofNat, Nat.mod_eq_of_lt (by omega)]; omega), BitVec.toNat_ofNat, Nat.mod_eq_of_lt (by omega)]

/-- The least position among the entries equal to `m`. -/
theorem fold_first {n : ℕ} (x : Fin n → EReal) (q : Fin n → ℕ) (m : EReal) (hq : ∀ c, q c < 2 ^ 30) (hm : ∃ c, x c = m) :
    (∃ c, x c = m ∧ Finset.univ.fold IntOp.minsi 2147483647#32 (fun c => if x c = m then BitVec.ofNat 32 (q c) else 2147483647#32) = BitVec.ofNat 32 (q c))
      ∧ ∀ c, x c = m → (Finset.univ.fold IntOp.minsi 2147483647#32 (fun c => if x c = m then BitVec.ofNat 32 (q c) else 2147483647#32)).toNat ≤ q c := by
  obtain ⟨h1, -, h3⟩ := fold_minsi_spec 2147483647#32 (fun c => if x c = m then BitVec.ofNat 32 (q c) else 2147483647#32) Finset.univ
  generalize Finset.univ.fold IntOp.minsi 2147483647#32 (fun c => if x c = m then BitVec.ofNat 32 (q c) else 2147483647#32) = r at h1 h3 ⊢
  have hlt : ∀ c, x c = m → r.toInt ≤ q c := fun c hc => by
    have := h3 c (Finset.mem_univ c)
    rw [if_pos hc, toInt_small (lt_trans (hq c) (by norm_num))] at this
    exact this
  obtain ⟨c0, hc0⟩ := hm
  have hbig : ¬ r = 2147483647#32 := by
    rintro rfl
    have h := hlt c0 hc0
    have h' := hq c0
    rw [show (2147483647#32 : BitVec 32).toInt = 2147483647 from by decide] at h
    omega
  obtain ⟨c, hc, e⟩ : ∃ c, x c = m ∧ r = BitVec.ofNat 32 (q c) := by
    rcases h1 with h1 | ⟨c, -, h1⟩
    · exact absurd h1 hbig
    · by_cases h : x c = m
      · rw [if_pos h] at h1; exact ⟨c, h, h1⟩
      · rw [if_neg h] at h1; exact absurd h1 hbig
  refine ⟨⟨c, hc, e⟩, fun d hd => ?_⟩
  have := hlt d hd
  rw [e, toInt_small (lt_trans (hq c) (by norm_num))] at this
  rw [e, BitVec.toNat_ofNat, Nat.mod_eq_of_lt (lt_trans (hq c) (by norm_num))]
  exact_mod_cast this

/-! ### The extraction loop -/

theorem put_at {α : Type} (p : BitVec 32) (x : S128.Idx → α) (a : S128x16.Idx → α) (r : Fin 128) (k : Fin 16) :
    put p x a (ix2 r k) = if BitVec.ofNat 32 k.val = p then x (ix1 r) else a (ix2 r k) := by
  pointwise [put]
  rw [show IntOp.cmpi .eq (BitVec.ofNat 32 k.val) p = BitVec.ofBool (BitVec.ofNat 32 k.val == p) from rfl, WordCmp.select_ofBool]
  simp only [beq_iff_eq]

/-- A fold over `n` trips as `n` steps of a recursion. -/
theorem foldl_finRange {σ : Type} (step : ℕ → σ → σ) (init : σ) (s : ℕ → σ) (h0 : s 0 = init) (hs : ∀ k, s (k + 1) = step k (s k)) (n : ℕ) :
    (List.finRange n).foldl (fun acc (k : Fin n) => step k.val acc) init = s n := by
  induction n with
  | zero => rw [List.finRange_zero]; exact h0.symm
  | succ n ih =>
    rw [List.finRange_succ_last, List.foldl_append, List.foldl_map]
    simp only [Fin.val_castSucc, List.foldl_cons, List.foldl_nil, Fin.val_last]
    rw [ih, hs]

/-- The extraction loop: `cs` puts an entry at infinity, `ci` names it, `cm` is its value; the two results hold what the
    rounds found. -/
theorem loop_at {V : Type} (cs : V → V) (ci : V → IVec S128 32) (cm : V → FVec Ideal S128 .f32) (x : V) (a : IVec S128x16 32) (b : FVec Ideal S128x16 .f32)
    (n : ℕ) (hn : n = 16) (r : Fin 128) (k : Fin 16) :
    (Scf.fold (n := n) (fun (k : Fin n) (y : V × IVec S128x16 32 × FVec Ideal S128x16 .f32) =>
        (cs y.1, put (Scf.iv 0#32 1#32 k) (ci y.1) y.2.1, put (Scf.iv 0#32 1#32 k) (cm y.1) y.2.2)) (x, a, b)).2.1 (ix2 r k) = ci (cs^[k.val] x) (ix1 r)
    ∧ (Scf.fold (n := n) (fun (k : Fin n) (y : V × IVec S128x16 32 × FVec Ideal S128x16 .f32) =>
        (cs y.1, put (Scf.iv 0#32 1#32 k) (ci y.1) y.2.1, put (Scf.iv 0#32 1#32 k) (cm y.1) y.2.2)) (x, a, b)).2.2 (ix2 r k) = cm (cs^[k.val] x) (ix1 r) := by
  subst hn
  rw [Scf.fold_eq]
  let g : ℕ → V × IVec S128x16 32 × FVec Ideal S128x16 .f32 → V × IVec S128x16 32 × FVec Ideal S128x16 .f32 := fun k y =>
    (cs y.1, put (Scf.iv 0#32 1#32 k) (ci y.1) y.2.1, put (Scf.iv 0#32 1#32 k) (cm y.1) y.2.2)
  let s : ℕ → V × IVec S128x16 32 × FVec Ideal S128x16 .f32 := Nat.rec (x, a, b) fun k y => g k y
  have hf := foldl_finRange g (x, a, b) s rfl (fun _ => rfl) 16
  refine (fun {z} (hz : z = s 16) => ?_ : ∀ {z : V × IVec S128x16 32 × FVec Ideal S128x16 .f32}, z = s 16 →
    z.2.1 (ix2 r k) = ci (cs^[k.val] x) (ix1 r) ∧ z.2.2 (ix2 r k) = cm (cs^[k.val] x) (ix1 r)) hf
  subst hz
  have h1 : ∀ p, (s p).1 = cs^[p] x := by
    intro p
    induction p with
    | zero => rfl
    | succ p ih => rw [Function.iterate_succ_apply', ← ih]
  have hiv : ∀ p, Scf.iv 0#32 1#32 p = BitVec.ofNat 32 p := fun p => by simp [Scf.iv]
  have h2 : ∀ p, p ≤ 16 → k.val < p → (s p).2.1 (ix2 r k) = ci (cs^[k.val] x) (ix1 r) ∧ (s p).2.2 (ix2 r k) = cm (cs^[k.val] x) (ix1 r) := by
    intro p
    induction p with
    | zero => intro _ h; omega
    | succ p ih =>
      intro hp hk
      have e : (s (p + 1)).2 = (put (Scf.iv 0#32 1#32 p) (ci (s p).1) (s p).2.1, put (Scf.iv 0#32 1#32 p) (cm (s p).1) (s p).2.2) := rfl
      rw [e]
      dsimp only
      rw [put_at, put_at, hiv, h1]
      by_cases h : k.val = p
      · rw [if_pos (by rw [h]), if_pos (by rw [h]), h]; exact ⟨rfl, rfl⟩
      · have hne : ¬ BitVec.ofNat 32 k.val = BitVec.ofNat 32 p := fun e => h (ofNat_inj (by omega) (by omega) e)
        rw [if_neg hne, if_neg hne]
        exact ih (by omega) (by omega)
  exact h2 16 le_rfl k.isLt

/-- The rounds of a row, from the row facts of the three vector steps. -/
theorem rounds_of {V : Type} {n N : ℕ} (cs : V → V) (ci : V → BitVec 32) (cm : V → EReal) (row : V → Fin n → EReal) (pos : Fin n → Fin N) (x : V)
    (D : Fin N → EReal) (hN : N ≤ 2 ^ 30) (hn : 0 < n)
    (hcm : ∀ y, cm y = Finset.univ.fold min ⊤ (row y))
    (hci : ∀ y, ci y = Finset.univ.fold IntOp.minsi 2147483647#32 (fun c => if row y c = cm y then BitVec.ofNat 32 (pos c).val else 2147483647#32))
    (hcs : ∀ y c, row (cs y) c = if row y c = cm y ∧ BitVec.ofNat 32 (pos c).val = ci y then ⊤ else row y c)
    (hx : ∀ c, row x c = D (pos c)) :
    Rounds n D pos (fun p => row (cs^[p] x)) (fun p => cm (cs^[p] x)) (fun p => ci (cs^[p] x)) where
  start := hx
  least p _ c := by rw [hcm]; exact fold_min_le _ c
  found p _ := by
    rw [hci]
    exact (fold_first _ (fun c => (pos c).val) _ (fun c => lt_of_lt_of_le (pos c).isLt hN) (by rw [hcm]; exact fold_min_mem _ hn)).1
  first p _ := by
    rw [hci]
    exact (fold_first _ (fun c => (pos c).val) _ (fun c => lt_of_lt_of_le (pos c).isLt hN) (by rw [hcm]; exact fold_min_mem _ hn)).2
  next p _ c := by rw [Function.iterate_succ_apply', hcs]

/-! ### The steps at a row -/

theorem cmin_at (x : FVec Ideal S128x2048 .f32) (r : Fin 128) : cmin x (ix1 r) = Finset.univ.fold min ⊤ (fun c => x (ix2 r c)) := by
  pointwise [cmin, ofBits_inf]

theorem cidx_at (idx : IVec S128x2048 32) (x : FVec Ideal S128x2048 .f32) (r : Fin 128) :
    cidx idx x (ix1 r) = Finset.univ.fold IntOp.minsi 2147483647#32 (fun c => if x (ix2 r c) = cmin x (ix1 r) then idx (ix2 r c) else 2147483647#32) := by
  pointwise [cidx, ceq]

theorem select_and {p : Prop} [Decidable p] (a b : BitVec 32) (u v : EReal) :
    Scalar.select (IntOp.andi (BitVec.ofBool (decide p)) (IntOp.cmpi .eq a b)) u v = if p ∧ a = b then u else v := by
  rw [show IntOp.cmpi .eq a b = BitVec.ofBool (a == b) from rfl]
  by_cases hp : p <;> by_cases hq : a = b
  · rw [if_pos ⟨hp, hq⟩, beq_iff_eq.mpr hq, decide_eq_true hp]; rfl
  · rw [if_neg (fun h => hq h.2), beq_eq_false_iff_ne.mpr hq, decide_eq_true hp]; rfl
  · rw [if_neg (fun h => hp h.1), beq_iff_eq.mpr hq, decide_eq_false hp]; rfl
  · rw [if_neg (fun h => hp h.1), beq_eq_false_iff_ne.mpr hq, decide_eq_false hp]; rfl

theorem cset_at (idx : IVec S128x2048 32) (x : FVec Ideal S128x2048 .f32) (r : Fin 128) (c : Fin 2048) :
    cset idx x (ix2 r c) = if x (ix2 r c) = cmin x (ix1 r) ∧ idx (ix2 r c) = cidx idx x (ix1 r) then ⊤ else x (ix2 r c) := by
  pointwise [cset, ceq, ofBits_inf]
  exact select_and _ _ _ _

theorem pay5_at (x : FVec Ideal S128x16384 .f32) (r : Fin 128) : k0_pay5 (F := Ideal) x (ix1 r) = Finset.univ.fold min ⊤ (fun c => x (ix2 r c)) := by
  pointwise [k0_pay5, ofBits_inf]

theorem pay7_at (x : FVec Ideal S128x16384 .f32) (r : Fin 128) : k0_pay7 (F := Ideal) x (ix1 r)
    = Finset.univ.fold IntOp.minsi 2147483647#32 (fun c : Fin 16384 => if x (ix2 r c) = k0_pay5 (F := Ideal) x (ix1 r) then BitVec.ofNat 32 c.val else 2147483647#32) := by
  pointwise [k0_pay7, k0_pay6]

theorem pay10_at (x : FVec Ideal S128x16384 .f32) (r : Fin 128) (c : Fin 16384) : k0_pay10 (F := Ideal) x (ix2 r c)
    = if x (ix2 r c) = k0_pay5 (F := Ideal) x (ix1 r) ∧ BitVec.ofNat 32 c.val = k0_pay7 (F := Ideal) x (ix1 r) then ⊤ else x (ix2 r c) := by
  pointwise [k0_pay10, k0_pay6, ofBits_inf]
  exact select_and _ _ _ _

section Parts
variable (v6 : FVec Ideal S16384 .f32) (v9 : FVec Ideal S128x16384 .f32) (v10 : FVec Ideal S128x1 .f32)

/-- The distance of query row `r` to row `p`, from the squared lengths and the dot product. -/
def dist (r : Fin 128) (p : Fin 16384) : EReal :=
  max (v10 (ix2 r 0) - Ideal.ofBits .f32 0x40000000#32 * v9 (ix2 r p) + v6 (ix1 p)) 0

theorem mem_at (k : Fin 16) (r : Fin 128) (l : Fin 1024) :
    mem (F := Ideal) v6 v9 v10 k (ix2 r l) = dist v6 v9 v10 r ⟨1024 * k.val + l.val, by omega⟩ := by
  pointwise [mem, dist]

theorem pay2_at (r : Fin 128) (p : Fin 16384) : k0_pay2 (F := Ideal) v6 v9 v10 (ix2 r p) = dist v6 v9 v10 r p := by
  pointwise [k0_pay2, dist]

/-- The extraction over all columns finds the sixteen nearest rows. -/
theorem scanAll_top (hd : ∀ r p, dist v6 v9 v10 r p < ⊤) (r : Fin 128) :
    ∃ σ : Fin 16 → Fin 16384, IsTop (dist v6 v9 v10 r) σ ∧ ∀ k, (scanAll v6 v9 v10).2.1 (ix2 r k) = BitVec.ofNat 32 (σ k).val
      ∧ (scanAll v6 v9 v10).2.2 (ix2 r k) = dist v6 v9 v10 r (σ k) := by
  obtain ⟨c, h1, h2, h3⟩ := (rounds_of (n := 16384) (N := 16384) (k0_pay10 (F := Ideal)) (fun y => k0_pay7 (F := Ideal) y (ix1 r))
    (fun y => k0_pay5 (F := Ideal) y (ix1 r)) (fun y c => y (ix2 r c)) id (k0_pay2 (F := Ideal) v6 v9 v10) (dist v6 v9 v10 r) (by norm_num) (by norm_num)
    (fun y => pay5_at y r) (fun y => pay7_at y r) (fun y c => pay10_at y r c) (fun c => pay2_at v6 v9 v10 r c)).top
    Function.injective_id (hd r) (by norm_num) (by norm_num)
  refine ⟨c, ⟨h2, h3⟩, fun k => ?_⟩
  have := loop_at (k0_pay10 (F := Ideal)) (k0_pay7 (F := Ideal)) (k0_pay5 (F := Ideal)) (k0_pay2 v6 v9 v10) k0_pay3 k0_pay4 k0_t2_loop.trips (by decide) r k
  exact ⟨this.1.trans (h1 k).1, this.2.trans (h1 k).2⟩

/-- The extraction over candidates finds the sixteen nearest candidates. -/
theorem extract_top (idx : IVec S128x2048 32) (x : FVec Ideal S128x2048 .f32) (r : Fin 128) (D : Fin 16384 → EReal) (hD : ∀ p, D p < ⊤)
    (pos : Fin 2048 → Fin 16384) (hinj : Function.Injective pos) (hidx : ∀ c, idx (ix2 r c) = BitVec.ofNat 32 (pos c).val) (hx : ∀ c, x (ix2 r c) = D (pos c)) :
    ∃ c : Fin 16 → Fin 2048, (∀ k, (extract idx x).2.1 (ix2 r k) = BitVec.ofNat 32 (pos (c k)).val ∧ (extract idx x).2.2 (ix2 r k) = D (pos (c k)))
      ∧ (∀ i k, i < k → Lex D (pos (c i)) (pos (c k))) ∧ ∀ i y, (∀ k, c k ≠ y) → Lex D (pos (c i)) (pos y) := by
  obtain ⟨c, h1, h2, h3⟩ := (rounds_of (n := 2048) (N := 16384) (cset idx) (fun y => cidx idx y (ix1 r))
    (fun y => cmin y (ix1 r)) (fun y c => y (ix2 r c)) pos x D (by norm_num) (by norm_num)
    (fun y => cmin_at y r) (fun y => by simp only [← hidx]; exact cidx_at idx y r) (fun y c => by rw [← hidx]; exact cset_at idx y r c) hx).top
    hinj hD (by norm_num) (by norm_num)
  refine ⟨c, fun k => ?_, h2, h3⟩
  have := loop_at (cset idx) (cidx idx) (cmin (F := Ideal)) x (broadcast S128x16 0#32) (broadcast S128x16 (Scalar.ofBits .f32 0x00000000#32)) k0_t1_loop.trips (by decide) r k
  exact ⟨this.1.trans (h1 k).1, this.2.trans (h1 k).2⟩

end Parts

end Cert.KernelIdeal.Hand

end
-- ==== Proof.Value.Block.lean ====
/-
  What one block computes: for every query row the sixteen nearest rows, whichever extraction it takes.
-/
module

public import proofs.«01_k».proof.Proof.Value.Row

@[expose] public section

set_option maxRecDepth 16384

noncomputable section

namespace Cert.KernelIdeal.Hand

open Cert.KernelIdeal Cert.KernelIdeal.Gen Cert.Knn
open Idealize.ShloMosaic Idealize.ShloMosaic.TcCoe

/-! ### One step at a lane -/

section Step
variable (j : BitVec 32) (v : FVec Ideal S128x1024 .f32) (s : St Ideal) (r : Fin 128) (l : Fin 1024)

theorem step_lo : (step j v s).lo (ix2 r l) = if v (ix2 r l) < s.lo (ix2 r l) then v (ix2 r l) else s.lo (ix2 r l) := by
  pointwise [step, isl]

theorem step_loj : (step j v s).loj (ix2 r l) = if v (ix2 r l) < s.lo (ix2 r l) then j else s.loj (ix2 r l) := by
  pointwise [step, isl]

theorem step_hi : (step j v s).hi (ix2 r l)
    = if (if v (ix2 r l) < s.lo (ix2 r l) then s.lo (ix2 r l) else v (ix2 r l)) < s.hi (ix2 r l)
      then (if v (ix2 r l) < s.lo (ix2 r l) then s.lo (ix2 r l) else v (ix2 r l)) else s.hi (ix2 r l) := by
  pointwise [step, ish, dem, isl]

theorem step_hij : (step j v s).hij (ix2 r l)
    = if (if v (ix2 r l) < s.lo (ix2 r l) then s.lo (ix2 r l) else v (ix2 r l)) < s.hi (ix2 r l)
      then (if v (ix2 r l) < s.lo (ix2 r l) then s.loj (ix2 r l) else j) else s.hij (ix2 r l) := by
  pointwise [step, ish, dem, demj, isl]

theorem step_m3 : (step j v s).m3 (ix2 r l)
    = min (s.m3 (ix2 r l)) (if (if v (ix2 r l) < s.lo (ix2 r l) then s.lo (ix2 r l) else v (ix2 r l)) < s.hi (ix2 r l)
      then s.hi (ix2 r l) else (if v (ix2 r l) < s.lo (ix2 r l) then s.lo (ix2 r l) else v (ix2 r l))) := by
  pointwise [step, loser, ish, dem, isl]

end Step

section Parts
variable (v6 : FVec Ideal S16384 .f32) (v9 : FVec Ideal S128x16384 .f32) (v10 : FVec Ideal S128x1 .f32)

/-- The distances met in lane `l`, by member. -/
def lane (r : Fin 128) (l : Fin 1024) (k : ℕ) : EReal :=
  if h : k < 16 then dist v6 v9 v10 r ⟨1024 * k + l.val, by omega⟩ else 0

theorem mem_lane (k : Fin 16) (r : Fin 128) (l : Fin 1024) : mem (F := Ideal) v6 v9 v10 k (ix2 r l) = lane v6 v9 v10 r l k.val := by
  rw [mem_at, lane, dif_pos k.isLt]

theorem lane_lt (hd : ∀ r p, dist v6 v9 v10 r p < ⊤) (r : Fin 128) (l : Fin 1024) (k : ℕ) : lane v6 v9 v10 r l k < ⊤ := by
  unfold lane
  split
  · exact hd _ _
  · exact EReal.zero_lt_top

/-- After members `0 … k + 1` a lane keeps two of them and a bound below the rest. -/
theorem state_lane (hd : ∀ r p, dist v6 v9 v10 r p < ⊤) (r : Fin 128) (l : Fin 1024) (k : ℕ) (hk : k + 1 < 16) :
    ∃ a b, Lane (lane v6 v9 v10 r l) (k + 1) ((state v6 v9 v10 (k + 1) hk).lo (ix2 r l)) ((state v6 v9 v10 (k + 1) hk).loj (ix2 r l))
      ((state v6 v9 v10 (k + 1) hk).hi (ix2 r l)) ((state v6 v9 v10 (k + 1) hk).hij (ix2 r l)) ((state v6 v9 v10 (k + 1) hk).m3 (ix2 r l)) a b := by
  induction k with
  | zero =>
    have h := Lane.one (d := lane v6 v9 v10 r l) (lane_lt v6 v9 v10 hd r l)
    have e : state v6 v9 v10 (0 + 1) hk = step 1#32 (mem v6 v9 v10 1) (init v6 v9 v10) := rfl
    rw [e, step_lo, step_loj, step_hi, step_hij, step_m3, mem_lane]
    have e0 : (init (F := Ideal) v6 v9 v10).lo (ix2 r l) = lane v6 v9 v10 r l 0 := mem_lane v6 v9 v10 0 r l
    have e1 : (init (F := Ideal) v6 v9 v10).hi (ix2 r l) = ⊤ := ofBits_inf
    have e2 : (init (F := Ideal) v6 v9 v10).m3 (ix2 r l) = ⊤ := ofBits_inf
    rw [e0, e1, e2]
    exact h
  | succ k ih =>
    obtain ⟨a, b, h⟩ := ih (by omega)
    have e : state v6 v9 v10 (k + 1 + 1) hk = step (BitVec.ofNat 32 (k + 1 + 1)) (mem v6 v9 v10 ⟨k + 1 + 1, hk⟩) (state v6 v9 v10 (k + 1) (by omega)) := rfl
    rw [e, step_lo, step_loj, step_hi, step_hij, step_m3, mem_lane]
    exact h.succ

theorem cand_at (s : St Ideal) (r : Fin 128) (c : Fin 2048) :
    cand s (ix2 r c) = if h : c.val < 1024 then s.lo (ix2 r ⟨c.val, h⟩) else s.hi (ix2 r ⟨c.val - 1024, by omega⟩) := by
  pointwise [cand]

theorem candIdx_at (s : St Ideal) (r : Fin 128) (c : Fin 2048) :
    candIdx s (ix2 r c) = if h : c.val < 1024 then s.loj (ix2 r ⟨c.val, h⟩) * 1024#32 + BitVec.ofNat 32 c.val
      else s.hij (ix2 r ⟨c.val - 1024, by omega⟩) * 1024#32 + BitVec.ofNat 32 (c.val - 1024) := by
  pointwise [candIdx, rowOf]
  rfl

theorem close_at (s : St Ideal) (d : FVec Ideal S128x16 .f32) (r : Fin 128) (l : Fin 1024) :
    close s d (ix2 r l) = BitVec.ofBool (decide (s.m3 (ix2 r l) ≤ Finset.univ.fold max ⊥ fun k => d (ix2 r k))) := by
  pointwise [close, ofBits_neg_inf]

/-- A set mask bit anywhere in the block raises the flag. -/
theorem flag_of_bit (a : IVec S128x1024 1) (r : Fin 128) (l : Fin 1024) (h : a (ix2 r l) = 1#1) :
    flag a (k0_pay152 (F := Ideal)) (k0_pay153 (F := Ideal)) = 1#1 := by
  have hp : (0 : EReal) < Finset.univ.fold max ⊥ (fun x : Fin 128 × Fin 1024 =>
      Scalar.select (a (ix2 x.1 x.2)) (k0_pay152 (F := Ideal) (ix2 x.1 x.2)) (k0_pay153 (F := Ideal) (ix2 x.1 x.2))) := by
    refine lt_of_lt_of_le ?_ (fold_max_le _ (r, l))
    dsimp only
    rw [h]
    pointwise [k0_pay152, Scalar.select]
    exact zero_lt_one
  pointwise [flag, k0_pay1, ofBits_neg_inf]
  rw [decide_eq_true hp]
  rfl

theorem result_all (s : St Ideal) (h : flag (close s (extract (candIdx s) (cand s)).2.2) (k0_pay152 (F := Ideal)) (k0_pay153 (F := Ideal)) = 1#1) :
    result v6 v9 v10 s = (scanAll v6 v9 v10).2 := if_pos h

theorem result_cand (s : St Ideal) (h : ¬ flag (close s (extract (candIdx s) (cand s)).2.2) (k0_pay152 (F := Ideal)) (k0_pay153 (F := Ideal)) = 1#1) :
    result v6 v9 v10 s = (extract (candIdx s) (cand s)).2 := if_neg h

/-- A block's extraction is right from any state whose lanes keep two members and a bound below the rest: over the
    candidates where no bound is at or below the largest distance found, over all columns otherwise. -/
theorem result_of (hd : ∀ r p, dist v6 v9 v10 r p < ⊤) (s : St Ideal) (r : Fin 128)
    (hl : ∀ l : Fin 1024, ∃ a b, Lane (lane v6 v9 v10 r l) 15 (s.lo (ix2 r l)) (s.loj (ix2 r l)) (s.hi (ix2 r l)) (s.hij (ix2 r l)) (s.m3 (ix2 r l)) a b) :
    ∃ σ : Fin 16 → Fin 16384, IsTop (dist v6 v9 v10 r) σ ∧ ∀ k,
      (result v6 v9 v10 s).1 (ix2 r k) = BitVec.ofNat 32 (σ k).val ∧ (result v6 v9 v10 s).2 (ix2 r k) = dist v6 v9 v10 r (σ k) := by
  by_cases hflag : flag (close s (extract (candIdx s) (cand s)).2.2) (k0_pay152 (F := Ideal)) (k0_pay153 (F := Ideal)) = 1#1
  · rw [result_all v6 v9 v10 s hflag]
    exact scanAll_top v6 v9 v10 hd r
  rw [result_cand v6 v9 v10 s hflag]
  choose a b hl using hl
  have ha : ∀ l, a l < 16 := fun l => Nat.lt_succ_of_le (hl l).ha
  have hb : ∀ l, b l < 16 := fun l => Nat.lt_succ_of_le (hl l).hb
  have hlane : ∀ (l : Fin 1024) (k : ℕ) (hk : k < 16), lane v6 v9 v10 r l k = dist v6 v9 v10 r ⟨1024 * k + l.val, by omega⟩ := fun l k hk => by
    rw [lane, dif_pos hk]
  let pos : Fin 2048 → Fin 16384 := fun c => if h : c.val < 1024 then ⟨1024 * a ⟨c.val, h⟩ + c.val, by have := ha ⟨c.val, h⟩; omega⟩
    else ⟨1024 * b ⟨c.val - 1024, by omega⟩ + (c.val - 1024), by have := hb ⟨c.val - 1024, by omega⟩; omega⟩
  have pos_lo : ∀ (c : Fin 2048) (h : c.val < 1024), (pos c).val = 1024 * a ⟨c.val, h⟩ + c.val := fun c h => by simp only [pos, dif_pos h]
  have pos_hi : ∀ (c : Fin 2048) (h : ¬ c.val < 1024), (pos c).val = 1024 * b ⟨c.val - 1024, by omega⟩ + (c.val - 1024) := fun c h => by simp only [pos, dif_neg h]
  have hinj : Function.Injective pos := by
    intro c c' e
    have e := congrArg Fin.val e
    by_cases h : c.val < 1024 <;> by_cases h' : c'.val < 1024
    · rw [pos_lo c h, pos_lo c' h'] at e
      exact Fin.ext (by omega)
    · rw [pos_lo c h, pos_hi c' h'] at e
      have hc : c.val = c'.val - 1024 := by omega
      have hab := (hl ⟨c.val, h⟩).hab
      have : (⟨c'.val - 1024, by omega⟩ : Fin 1024) = ⟨c.val, h⟩ := Fin.ext hc.symm
      rw [this] at e
      omega
    · rw [pos_hi c h, pos_lo c' h'] at e
      have hc : c'.val = c.val - 1024 := by omega
      have hab := (hl ⟨c'.val, h'⟩).hab
      have : (⟨c.val - 1024, by omega⟩ : Fin 1024) = ⟨c'.val, h'⟩ := Fin.ext hc.symm
      rw [this] at e
      omega
    · rw [pos_hi c h, pos_hi c' h'] at e
      exact Fin.ext (by omega)
  have word : ∀ x y : ℕ, BitVec.ofNat 32 x * 1024#32 + BitVec.ofNat 32 y = BitVec.ofNat 32 (1024 * x + y) := fun x y => by
    rw [mul_comm 1024 x, BitVec.ofNat_add, BitVec.ofNat_mul]
  have hidx : ∀ c, candIdx s (ix2 r c) = BitVec.ofNat 32 (pos c).val := fun c => by
    rw [candIdx_at]
    by_cases h : c.val < 1024
    · rw [dif_pos h, pos_lo c h, (hl ⟨c.val, h⟩).loj, word]
    · rw [dif_neg h, pos_hi c h, (hl ⟨c.val - 1024, by omega⟩).hij, word]
  have hx : ∀ c, cand s (ix2 r c) = dist v6 v9 v10 r (pos c) := fun c => by
    rw [cand_at]
    by_cases h : c.val < 1024
    · rw [dif_pos h, (hl ⟨c.val, h⟩).lo, hlane _ _ (ha _)]
      exact congrArg _ (Fin.ext (pos_lo c h).symm)
    · rw [dif_neg h, (hl ⟨c.val - 1024, by omega⟩).hi, hlane _ _ (hb _)]
      exact congrArg _ (Fin.ext (pos_hi c h).symm)
  obtain ⟨c, h1, h2, h3⟩ := extract_top (candIdx s) (cand s) r (dist v6 v9 v10 r) (hd r) pos hinj hidx hx
  refine ⟨fun k => pos (c k), ⟨h2, fun i p hp => ?_⟩, h1⟩
  by_cases hmem : ∃ y, pos y = p
  · obtain ⟨y, rfl⟩ := hmem
    exact h3 i y fun k e => hp k (by rw [e])
  -- a row outside the candidates was dropped, so it is farther than all sixteen
  have hlt : p.val % 1024 < 1024 := Nat.mod_lt _ (by norm_num)
  have hbit : ¬ s.m3 (ix2 r ⟨p.val % 1024, hlt⟩) ≤ Finset.univ.fold max ⊥ fun k => (extract (candIdx s) (cand s)).2.2 (ix2 r k) := fun h =>
    hflag (flag_of_bit _ r ⟨p.val % 1024, hlt⟩ (by rw [close_at, decide_eq_true h]; rfl))
  have hle : dist v6 v9 v10 r (pos (c i)) ≤ Finset.univ.fold max ⊥ fun k => (extract (candIdx s) (cand s)).2.2 (ix2 r k) := by
    rw [← (h1 i).2]
    exact fold_max_le (fun k : Fin 16 => (extract (candIdx s) (cand s)).2.2 (ix2 r k)) i
  refine Or.inl (hle.trans_lt ((not_le.mp hbit).trans_le ?_))
  have hp' : lane v6 v9 v10 r ⟨p.val % 1024, hlt⟩ (p.val / 1024) = dist v6 v9 v10 r p := by
    rw [hlane _ _ (by have := p.isLt; omega)]
    exact congrArg _ (Fin.ext (by show 1024 * (p.val / 1024) + p.val % 1024 = p.val; omega))
  rcases (hl ⟨p.val % 1024, hlt⟩).rest (p.val / 1024) (by have := p.isLt; omega) with h | h | h
  · exact absurd ⟨⟨p.val % 1024, by omega⟩, Fin.ext (by rw [pos_lo _ hlt, ← h]; show 1024 * (p.val / 1024) + p.val % 1024 = p.val; omega)⟩ hmem
  · refine absurd ⟨⟨p.val % 1024 + 1024, by omega⟩, Fin.ext ?_⟩ hmem
    rw [pos_hi _ (by show ¬ p.val % 1024 + 1024 < 1024; omega)]
    have e : (⟨p.val % 1024 + 1024 - 1024, by omega⟩ : Fin 1024) = ⟨p.val % 1024, hlt⟩ := Fin.ext (Nat.add_sub_cancel _ _)
    show 1024 * b ⟨p.val % 1024 + 1024 - 1024, _⟩ + (p.val % 1024 + 1024 - 1024) = p.val
    rw [e, ← h]
    omega
  · rw [← hp']; exact h

theorem state_last (hd : ∀ r p, dist v6 v9 v10 r p < ⊤) (r : Fin 128) (l : Fin 1024) (k : ℕ) (hk : k < 16) (h1 : 1 ≤ k) :
    ∃ a b, Lane (lane v6 v9 v10 r l) k ((state v6 v9 v10 k hk).lo (ix2 r l)) ((state v6 v9 v10 k hk).loj (ix2 r l))
      ((state v6 v9 v10 k hk).hi (ix2 r l)) ((state v6 v9 v10 k hk).hij (ix2 r l)) ((state v6 v9 v10 k hk).m3 (ix2 r l)) a b := by
  obtain ⟨j, rfl⟩ : ∃ j, k = j + 1 := ⟨k - 1, by omega⟩
  exact state_lane v6 v9 v10 hd r l j hk

end Parts

/-- The dot product and the squared lengths of rows, as the distance uses them. -/
def sqd (x y : Fin 64 → EReal) : EReal :=
  max ((∑ i, x i * x i) - Ideal.ofBits .f32 0x40000000#32 * (∑ i, x i * y i) + ∑ i, y i * y i) 0

/-- The block's distances are those of its rows to the points. -/
theorem dist_eq (v0 : Vec Ideal S128x64 .f32) (v1 : Vec Ideal S16384x64 .f32) (r : Fin 128) (p : Fin 16384) :
    dist (k0_pay12 (F := Ideal) (k0_pay11 (F := Ideal) v1)) (k0_pay13 (F := Ideal) v0 v1) (k0_pay14 (F := Ideal) v0) r p
      = sqd (fun i => v0 (ix2 r i)) (fun i => v1 (ix2 p i)) := by
  pointwise [dist, sqd, k0_pay11, k0_pay12, k0_pay13, k0_pay14]

/-- One block: for every query row the sixteen nearest points and their distances. -/
theorem knn_top (v0 : Vec Ideal S128x64 .f32) (v1 : Vec Ideal S16384x64 .f32)
    (hd : ∀ (r : Fin 128) (p : Fin 16384), sqd (fun i => v0 (ix2 r i)) (fun i => v1 (ix2 p i)) < ⊤) (r : Fin 128) :
    ∃ σ : Fin 16 → Fin 16384, IsTop (fun p : Fin 16384 => sqd (fun i => v0 (ix2 r i)) (fun i => v1 (ix2 p i))) σ ∧ ∀ k,
      (knn (F := Ideal) v0 v1 (k0_pay11 (F := Ideal) v1)).1 (ix2 r k) = BitVec.ofNat 32 (σ k).val
      ∧ (knn (F := Ideal) v0 v1 (k0_pay11 (F := Ideal) v1)).2 (ix2 r k) = sqd (fun i => v0 (ix2 r i)) (fun i => v1 (ix2 (σ k) i)) := by
  have hd' : ∀ r p, dist (k0_pay12 (F := Ideal) (k0_pay11 (F := Ideal) v1)) (k0_pay13 (F := Ideal) v0 v1) (k0_pay14 (F := Ideal) v0) r p < ⊤ :=
    fun r p => by rw [dist_eq]; exact hd r p
  have main : ∀ s y, y = result (k0_pay12 (F := Ideal) (k0_pay11 (F := Ideal) v1)) (k0_pay13 (F := Ideal) v0 v1) (k0_pay14 (F := Ideal) v0) s →
      (∀ l : Fin 1024, ∃ a b, Lane (lane (k0_pay12 (F := Ideal) (k0_pay11 (F := Ideal) v1)) (k0_pay13 (F := Ideal) v0 v1) (k0_pay14 (F := Ideal) v0) r l) 15
        (s.lo (ix2 r l)) (s.loj (ix2 r l)) (s.hi (ix2 r l)) (s.hij (ix2 r l)) (s.m3 (ix2 r l)) a b) →
      ∃ σ : Fin 16 → Fin 16384, IsTop (fun p : Fin 16384 => sqd (fun i => v0 (ix2 r i)) (fun i => v1 (ix2 p i))) σ ∧ ∀ k : Fin 16,
        y.1 (ix2 r k) = BitVec.ofNat 32 (σ k).val ∧ y.2 (ix2 r k) = sqd (fun i => v0 (ix2 r i)) (fun i => v1 (ix2 (σ k) i)) := by
    intro s y hy hl
    obtain ⟨σ, h1, h2⟩ := result_of _ _ _ hd' s r hl
    have hD : dist (k0_pay12 (F := Ideal) (k0_pay11 (F := Ideal) v1)) (k0_pay13 (F := Ideal) v0 v1) (k0_pay14 (F := Ideal) v0) r
      = fun p : Fin 16384 => sqd (fun i => v0 (ix2 r i)) (fun i => v1 (ix2 p i)) := funext fun p => dist_eq v0 v1 r p
    exact ⟨σ, hD ▸ h1, fun k => ⟨(congrFun (congrArg Prod.fst hy) _).trans (h2 k).1,
      (congrFun (congrArg Prod.snd hy) _).trans ((h2 k).2.trans (dist_eq v0 v1 r (σ k)))⟩⟩
  exact main _ _ (knn_eq v0 v1 (k0_pay11 (F := Ideal) v1)) fun l => state_last _ _ _ hd' r l 15 _ (by norm_num)

end Cert.KernelIdeal.Hand

end
-- ==== Proof.Value.Arrays.lean ====
/-
  What the two arrays the launch writes hold: block by block, the sixteen nearest rows of every row.
-/
module

public import proofs.«01_k».proof.Proof.Value.Block
public import proofs.«01_k».proof.Proof.KernelIdeal.Run
public import Idealize.ShloMosaic.Lib.Pipeline.ValueKit

@[expose] public section

set_option maxRecDepth 16384

noncomputable section

namespace Cert.KernelIdeal.Hand

open Cert.KernelIdeal Cert.KernelIdeal.Gen Cert.Knn
open Idealize.ShloMosaic Idealize.ShloMosaic.TcCoe
open Idealize.ShloMosaic.Pipeline (Dat)

variable (m : (ℓ : Loc nD τ sig) → Buf (Elt Ideal) ℓ)

/-- The squared distance of rows `i` and `p` of the points. -/
def rowDist (A : FVec Ideal S16384x64 .f32) (i p : Fin 16384) : EReal := sqd (fun k => A (ix2 i k)) (fun k => A (ix2 p k))

theorem index_vals : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

theorem row_lt (t : Fin cfg0.N) (r : Fin 128) : t.val * 128 + r.val < 16384 := by
  have ht : t.val < 128 := N_0 ▸ t.isLt
  omega

theorem iblk_zero (c : Dev nD) (t : Fin cfg0.N) (r : Fin 128) (k : Fin 64) :
    (show FVec Ideal S128x64 .f32 from iblk m c 0 t) (ix2 r k) = (show FVec Ideal S16384x64 .f32 from m ((c : Thread nD τ).loc main_arg0)) (ix2 ⟨t.val * 128 + r.val, row_lt t r⟩ k) := by
  show iblk m c 0 t (ix2 r k) = m ((c : Thread nD τ).loc main_arg0) (ix2 ⟨t.val * 128 + r.val, row_lt t r⟩ k)
  blk_ext [iblk, V, index_vals t]

theorem iblk_one_at (c : Dev nD) (t : Fin cfg0.N) (p : Fin 16384) (k : Fin 64) :
    (show FVec Ideal S16384x64 .f32 from iblk m c 1 t) (ix2 p k) = (show FVec Ideal S16384x64 .f32 from m ((c : Thread nD τ).loc main_arg0)) (ix2 p k) := by
  show iblk m c 1 t (ix2 p k) = m ((c : Thread nD τ).loc main_arg0) (ix2 p k)
  blk_ext [iblk, V, index_vals t]

theorem pts_eq (c : Dev nD) (p : Fin 16384) (k : Fin 64) :
    (show FVec Ideal S16384x64 .f32 from pts m c) (ix2 p k) = (show FVec Ideal S16384x64 .f32 from m ((c : Thread nD τ).loc main_arg0)) (ix2 p k) :=
  iblk_one_at m c _ p k

/-- A block's results where its rows are rows of the array, `f r` for row `r`. -/
theorem knn_rows (A : FVec Ideal S16384x64 .f32) (x : Vec Ideal S128x64 .f32) (P : Vec Ideal S16384x64 .f32) (f : Fin 128 → Fin 16384)
    (hx : ∀ (r : Fin 128) (k : Fin 64), x (ix2 r k) = A (ix2 (f r) k)) (hP : ∀ (p : Fin 16384) (k : Fin 64), P (ix2 p k) = A (ix2 p k))
    (hd : ∀ i p, rowDist A i p < ⊤) (r : Fin 128) (z) (hz : z = knn (F := Ideal) x P (k0_pay11 (F := Ideal) P)) :
    ∃ σ : Fin 16 → Fin 16384, IsTop (rowDist A (f r)) σ ∧ ∀ k : Fin 16, z.1 (ix2 r k) = BitVec.ofNat 32 (σ k).val ∧ z.2 (ix2 r k) = rowDist A (f r) (σ k) := by
  have e : ∀ (r : Fin 128) (p : Fin 16384), sqd (fun i => x (ix2 r i)) (fun i => P (ix2 p i)) = rowDist A (f r) p := fun r p =>
    congrArg₂ sqd (funext fun k => hx r k) (funext fun k => hP p k)
  obtain ⟨σ, h1, h2⟩ := knn_top x P (fun r p => by rw [e]; exact hd _ _) r
  rw [funext (e r)] at h1
  exact ⟨σ, h1, fun k => ⟨(congrFun (congrArg Prod.fst hz) _).trans (h2 k).1, (congrFun (congrArg Prod.snd hz) _).trans ((h2 k).2.trans (e r (σ k)))⟩⟩

/-- Point `t`'s blocks: for each of its 128 rows the sixteen nearest. -/
theorem outs_top (c : Dev nD) (hd : ∀ i p, rowDist (m ((c : Thread nD τ).loc main_arg0)) i p < ⊤) (t : Fin cfg0.N) (r : Fin 128) :
    ∃ σ : Fin 16 → Fin 16384, IsTop (rowDist (m ((c : Thread nD τ).loc main_arg0)) ⟨t.val * 128 + r.val, row_lt t r⟩) σ ∧ ∀ k : Fin 16,
      (outs m c t).1 (ix2 r k) = BitVec.ofNat 32 (σ k).val
      ∧ (outs m c t).2 (ix2 r k) = rowDist (m ((c : Thread nD τ).loc main_arg0)) ⟨t.val * 128 + r.val, row_lt t r⟩ (σ k) :=
  knn_rows (m ((c : Thread nD τ).loc main_arg0)) (iblk m c 0 t) (pts m c) (fun r => ⟨t.val * 128 + r.val, row_lt t r⟩)
    (iblk_zero m c t) (pts_eq m c) hd r (outs m c t) (by unfold outs; rfl)

/-- Where element `y` of a written block sits in its array. -/
theorem emb_two (t : Fin cfg0.N) (y : ((cfg0.win 2).xblock (cfg0.grid.coords t)).Idx) :
    ((cfg0.win 2).blk t).view.emb y 0 = (⟨t.val * 128 + (show Fin 128 from y 0).val, row_lt t (y 0)⟩ : Fin 16384)
      ∧ ((cfg0.win 2).blk t).view.emb y 1 = (show Fin 16 from y 1) := by
  constructor
  · refine Fin.ext ?_
    blk_simp [index_vals t]
  · refine Fin.ext ?_
    blk_simp [index_vals t]

theorem emb_three (t : Fin cfg0.N) (y : ((cfg0.win 3).xblock (cfg0.grid.coords t)).Idx) :
    ((cfg0.win 3).blk t).view.emb y 0 = (⟨t.val * 128 + (show Fin 128 from y 0).val, row_lt t (y 0)⟩ : Fin 16384)
      ∧ ((cfg0.win 3).blk t).view.emb y 1 = (show Fin 16 from y 1) := by
  constructor
  · refine Fin.ext ?_
    blk_simp [index_vals t]
  · refine Fin.ext ?_
    blk_simp [index_vals t]

theorem read_at {α : Type} {N : ℕ} (g : Fin N → α) (σ : Fin 16 → Fin N) (o : S128x16.Idx → α) (r : Fin 128) (k w : Fin 16) (j : S128x16.Idx)
    (e : j = ix2 r k) (h : ∀ k, o (ix2 r k) = g (σ k)) (e1 : w = k) : o j = g (σ w) := by
  subst e e1; exact h _

/-- The array of indices. -/
theorem arr_idx (c : Dev nD) (hd : ∀ i p, rowDist (m ((c : Thread nD τ).loc main_arg0)) i p < ⊤) (i : S16384x16.Idx) :
    ∃ σ : Fin 16 → Fin 16384, IsTop (rowDist (m ((c : Thread nD τ).loc main_arg0)) (i 0)) σ
      ∧ (dats m 0 c).arrAt 2 (cfgs 0).N i = BitVec.ofNat 32 (σ (i 1)).val := by
  refine (dats m 0 c).arrAt_forall_of_covers 2 (fun i v => ∃ σ : Fin 16 → Fin 16384, IsTop (rowDist (m ((c : Thread nD τ).loc main_arg0)) (i 0)) σ
      ∧ v = BitVec.ofNat 32 (σ (i 1)).val) (by decide +kernel) (fun t hf y => ?_) i
  have ho := outs_top m c hd t
  have hz := after0_2 m c t
  generalize (dats m 0 c).after 2 t = z at hz ⊢
  generalize outs m c t = o at ho hz
  subst hz
  obtain ⟨σ, h1, h2⟩ := ho (y 0)
  obtain ⟨e0, e1⟩ := emb_two t y
  refine ⟨σ, Eq.mpr (congrArg (fun i : Fin 16384 => IsTop (rowDist (m ((c : Thread nD τ).loc main_arg0)) i) σ) e0) h1, (cast_eq rfl _).trans ?_⟩
  have e : (cfg0.win 2).xinj (cfg0.grid.coords t) y = (ix2 (show Fin 128 from y 0) (show Fin 16 from y 1) : S128x16.Idx) :=
    eq_ix2 (show S128x16.Idx from (cfg0.win 2).xinj (cfg0.grid.coords t) y)
  exact read_at (fun p : Fin 16384 => BitVec.ofNat 32 p.val) σ o.1 (y 0) (y 1) _ _ e (fun k => (h2 k).1) e1

/-- The array of distances. -/
theorem arr_dist (c : Dev nD) (hd : ∀ i p, rowDist (m ((c : Thread nD τ).loc main_arg0)) i p < ⊤) (i : S16384x16.Idx) :
    ∃ σ : Fin 16 → Fin 16384, IsTop (rowDist (m ((c : Thread nD τ).loc main_arg0)) (i 0)) σ
      ∧ (dats m 0 c).arrAt 3 (cfgs 0).N i = rowDist (m ((c : Thread nD τ).loc main_arg0)) (i 0) (σ (i 1)) := by
  refine (dats m 0 c).arrAt_forall_of_covers 3 (fun i v => ∃ σ : Fin 16 → Fin 16384, IsTop (rowDist (m ((c : Thread nD τ).loc main_arg0)) (i 0)) σ
      ∧ v = rowDist (m ((c : Thread nD τ).loc main_arg0)) (i 0) (σ (i 1))) (by decide +kernel) (fun t hf y => ?_) i
  have ho := outs_top m c hd t
  have hz := after0_3 m c t
  generalize (dats m 0 c).after 3 t = z at hz ⊢
  generalize outs m c t = o at ho hz
  subst hz
  obtain ⟨σ, h1, h2⟩ := ho (y 0)
  obtain ⟨e0, e1⟩ := emb_three t y
  refine ⟨σ, Eq.mpr (congrArg (fun i : Fin 16384 => IsTop (rowDist (m ((c : Thread nD τ).loc main_arg0)) i) σ) e0) h1, (cast_eq rfl _).trans ?_⟩
  have e : (cfg0.win 3).xinj (cfg0.grid.coords t) y = (ix2 (show Fin 128 from y 0) (show Fin 16 from y 1) : S128x16.Idx) :=
    eq_ix2 (show S128x16.Idx from (cfg0.win 3).xinj (cfg0.grid.coords t) y)
  exact (read_at (rowDist (m ((c : Thread nD τ).loc main_arg0)) ⟨t.val * 128 + (show Fin 128 from y 0).val, row_lt t (y 0)⟩) σ o.2 (y 0) (y 1) _ _ e (fun k => (h2 k).2) e1).trans
    (congrArg (fun i : Fin 16384 => rowDist (m ((c : Thread nD τ).loc main_arg0)) i (σ (((cfg0.win 3).blk t).view.emb y 1))) e0.symm)

end Cert.KernelIdeal.Hand

end
-- ==== Proof.Value.Finite.lean ====
/-
  Finite arguments: every squared distance is less than infinity.
-/
module

public import proofs.«01_k».proof.Proof.Value.Arrays
public import proofs.«01_k».proof.Pre_finite

@[expose] public section

set_option maxRecDepth 16384

noncomputable section

namespace Cert.Knn

open Idealize.ShloMosaic Cert.KernelIdeal.Hand

/-- A number that is less than infinity in size is a real number. -/
theorem real_of (x : EReal) (h : max x (-x) < ⊤) : ∃ r : ℝ, x = r := by
  induction x with
  | bot => simp at h
  | coe r => exact ⟨r, rfl⟩
  | top => simp at h

theorem sum_real {n : ℕ} (f : Fin n → EReal) (h : ∀ k, ∃ r : ℝ, f k = r) : ∃ r : ℝ, (∑ k, f k) = r := by
  choose g hg using h
  refine ⟨∑ k, g k, ?_⟩
  simp only [hg]
  induction (Finset.univ : Finset (Fin n)) using Finset.induction_on with
  | empty => simp
  | insert a s ha ih => rw [Finset.sum_insert ha, Finset.sum_insert ha, ih, EReal.coe_add]

theorem mul_real (x y : EReal) (hx : ∃ r : ℝ, x = r) (hy : ∃ r : ℝ, y = r) : ∃ r : ℝ, x * y = r := by
  obtain ⟨a, rfl⟩ := hx
  obtain ⟨b, rfl⟩ := hy
  exact ⟨a * b, (EReal.coe_mul a b).symm⟩

theorem two_real : Ideal.ofBits .f32 0x40000000#32 = ((2 : ℝ) : EReal) := by
  simp [Ideal.ofBits, Ideal.ieee]
  rw [← EReal.coe_mul]
  norm_num

/-- The squared distance of two vectors of real numbers is less than infinity. -/
theorem sqd_lt (x y : Fin 64 → EReal) (hx : ∀ k, ∃ r : ℝ, x k = r) (hy : ∀ k, ∃ r : ℝ, y k = r) : sqd x y < ⊤ := by
  obtain ⟨a, ha⟩ := sum_real _ fun k => mul_real _ _ (hx k) (hx k)
  obtain ⟨b, hb⟩ := sum_real _ fun k => mul_real _ _ (hx k) (hy k)
  obtain ⟨c, hc⟩ := sum_real _ fun k => mul_real _ _ (hy k) (hy k)
  unfold sqd
  rw [ha, hb, hc, two_real]
  refine max_lt ?_ EReal.zero_lt_top
  rw [← EReal.coe_mul, ← EReal.coe_sub, ← EReal.coe_add]
  exact EReal.coe_lt_top _

/-- What the precondition says of one number of the argument. -/
theorem real_at [Cert.Pre_finite.Facts] (A : FVec Ideal Cert.Pre_finite.S16384x64 .f32) (h : Cert.Pre_finite.fn (F := Ideal) A = fun _ => 1#1)
    (j : Cert.Pre_finite.S16384x64.Idx) : ∃ r : ℝ, A j = r := by
  refine real_of _ ?_
  have e := congrFun h j
  rw [show Cert.Pre_finite.fn (F := Ideal) A j = BitVec.ofBool (decide (max (A j : EReal) (-(A j : EReal)) < Ideal.ofBits .f32 0x7F800000#32)) from rfl, ofBits_inf] at e
  by_contra hn
  rw [decide_eq_false hn] at e
  exact absurd e (by decide)

theorem rowDist_lt [Cert.Pre_finite.Facts] (A : FVec Ideal Cert.KernelIdeal.S16384x64 .f32) (h : Cert.Pre_finite.fn (F := Ideal) A = fun _ => 1#1) (i p : Fin 16384) :
    Cert.KernelIdeal.Hand.rowDist A i p < ⊤ :=
  sqd_lt _ _ (fun _ => real_at A h _) (fun _ => real_at A h _)

end Cert.Knn

end
-- ==== Proof.Value.Sort.lean ====
/-
  What the reference's selection of the sixteen greatest does: it lists the sixteen first positions in order.
-/
module

public import proofs.«01_k».proof.Proof.Value.Top
public import Idealize.ShloMosaic.Lib.SortPrefix
public import Idealize.ShloMosaic.Lib.Pointwise

@[expose] public section

set_option maxRecDepth 16384

noncomputable section

namespace Cert.Knn

open Idealize.ShloMosaic

/-- A stable sort of positions listed in order never needs the positions told: adding them to the comparison changes
    nothing. -/
theorem stableSort_ties {n : ℕ} (B T : Fin n → Fin n → Bool) (l : List (Fin n)) (hl : l.Pairwise (· < ·)) :
    stableSort B l = stableSort (fun a b => B a b || (T a b && decide (a < b))) l := by
  induction l with
  | nil => rfl
  | cons a l ih =>
    rw [List.pairwise_cons] at hl
    unfold stableSort
    rw [← ih hl.2]
    refine insertBefore_congr _ _ a _ fun b hb => ?_
    have hab : a < b := hl.1 b ((perm_stableSort B l).mem_iff.mp hb)
    rw [decide_eq_false (not_lt.mpr hab.le), Bool.and_false, Bool.or_false]

theorem sortedFrom_ties {n : ℕ} (B T : Fin n → Fin n → Bool) :
    sortedFrom B = sortedFrom (fun a b => B a b || (T a b && decide (a < b))) := by
  funext k
  unfold sortedFrom
  rw [List.get_of_eq (show sortPositions n B = sortPositions n _ from stableSort_ties B T _ (List.pairwise_lt_finRange n))]
  rfl

/-- The stable sort by distance begins with the sixteen first positions. -/
theorem IsTop.sortedFrom {n : ℕ} (D : Fin n → EReal) (σ : Fin 16 → Fin n) (h : IsTop D σ) (hn : 16 ≤ n) (k : Fin 16) :
    sortedFrom (fun a b => decide (D a < D b)) (k.castLE hn) = σ k := by
  have hB := StrictTotalBefore.of_key_then_position (fun x y : EReal => decide (x < y)) D (fun a => decide_eq_false (lt_irrefl a))
    (fun a b c h h' => decide_eq_true (lt_trans (of_decide_eq_true h) (of_decide_eq_true h')))
    (fun a b => by rcases lt_trichotomy a b with h | h | h <;> simp [h])
  have hlex : ∀ a b, Lex D a b → (decide (D b < D a) || (decide (D b = D a) && decide (b < a))) = false := by
    intro a b h
    rcases h with h | ⟨h, h'⟩
    · rw [decide_eq_false (not_lt.mpr h.le), decide_eq_false (ne_of_gt h)]; rfl
    · rw [h, decide_eq_false (lt_irrefl _), decide_eq_false (not_lt.mpr h'.le), Bool.and_false]; rfl
  rw [sortedFrom_ties _ (fun a b => decide (D a = D b))]
  refine hB.sortedFrom_eq_of_prefix hn σ (fun i j e => ?_) (fun i j hij => hlex _ _ (h.ord i j hij)) (fun i p hp => hlex _ _ (h.dom i p hp)) k
  rcases lt_trichotomy i j with hij | hij | hij
  · exact absurd e (h.ord i j hij).ne
  · exact hij
  · exact absurd e.symm (h.ord j i hij).ne

/-- The first sixteen columns. -/
theorem slice_at {α : Type} (y : (⟨2, ![16384, 16384]⟩ : Shape).Idx → α) (h : (⟨2, ![16384, 16384]⟩ : Shape).Slices (fun _ => 0) ⟨2, ![16384, 16]⟩)
    (i : Fin 16384) (k : Fin 16) : extractStridedSlice ⟨2, ![16384, 16]⟩ (fun _ => 0) y h (ix2 i k) = y (ix2 i (k.castLE (by norm_num))) := by
  unfold extractStridedSlice
  congr 1
  funext a
  fin_cases a <;> exact Fin.ext (Nat.zero_add _)

/-- The sixteen greatest of a row of negated distances. -/
theorem topK_at (x : (⟨2, ![16384, 16384]⟩ : Shape).Idx → EReal) (h : (⟨2, ![16384, 16384]⟩ : Shape).Slices (fun _ => 0) ⟨2, ![16384, 16]⟩)
    (D : Fin 16384 → EReal) (σ : Fin 16 → Fin 16384) (i : Fin 16384) (hD : ∀ p : Fin 16384, x (ix2 i p) = -D p) (hσ : IsTop D σ) (k : Fin 16) :
    (Host.topK (s := ⟨2, ![16384, 16384]⟩) ⟨2, ![16384, 16]⟩ 1 (FloatOps.cmpfTotal (F := Ideal) (φ := .f32) .gt) x h).2 (ix2 i k) = BitVec.ofNat 32 (σ k).val
    ∧ (Host.topK (s := ⟨2, ![16384, 16384]⟩) ⟨2, ![16384, 16]⟩ 1 (FloatOps.cmpfTotal (F := Ideal) (φ := .f32) .gt) x h).1 (ix2 i k) = -D (σ k) := by
  have hal : ∀ (w p : Fin 16384), (ix2 i w : (⟨2, ![16384, 16384]⟩ : Shape).Idx).along 1 p = ix2 i p := fun w p => by
    funext a
    unfold Shape.Idx.along
    fin_cases a
    · exact Function.update_of_ne (by decide) _ _
    · exact Function.update_self _ _ _
  have hB : (fun a b : Fin 16384 => FloatOps.cmpfTotal (F := Ideal) (φ := .f32) .gt (x (ix2 i a)) (x (ix2 i b)) == 1#1) = fun a b => decide (D a < D b) := by
    funext a b
    rw [hD, hD, show FloatOps.cmpfTotal (F := Ideal) (φ := .f32) .gt (-D a : EReal) (-D b : EReal) = BitVec.ofBool (decide ((-D b : EReal) < -D a)) from rfl]
    by_cases hab : D a < D b
    · rw [decide_eq_true hab, decide_eq_true (EReal.neg_lt_neg_iff.mpr hab)]; rfl
    · rw [decide_eq_false hab, decide_eq_false (fun h => hab (EReal.neg_lt_neg_iff.mp h))]; rfl
  have e : sortedFrom (fun a b : Fin 16384 => FloatOps.cmpfTotal (F := Ideal) (φ := .f32) .gt (x ((ix2 i (k.castLE (by norm_num)) : (⟨2, ![16384, 16384]⟩ : Shape).Idx).along 1 a))
      (x ((ix2 i (k.castLE (by norm_num)) : (⟨2, ![16384, 16384]⟩ : Shape).Idx).along 1 b)) == 1#1) (k.castLE (by norm_num)) = σ k := by
    simp only [hal]
    rw [hB]
    exact hσ.sortedFrom D σ (by norm_num) k
  unfold Host.topK Host.sort2
  dsimp only
  rw [dif_pos (by decide : 1 < 2)]
  rw [slice_at, slice_at]
  dsimp only
  rw [dif_pos (by decide : 1 < 2)]
  constructor
  · refine (congrArg (fun p => iotaInDim (⟨2, ![16384, 16384]⟩ : Shape) 32 1 ((ix2 i (k.castLE (by norm_num)) : (⟨2, ![16384, 16384]⟩ : Shape).Idx).along 1 p)) e).trans ?_
    exact congrArg (iotaInDim (⟨2, ![16384, 16384]⟩ : Shape) 32 1) (hal _ _)
  · refine (congrArg (fun p => x ((ix2 i (k.castLE (by norm_num)) : (⟨2, ![16384, 16384]⟩ : Shape).Idx).along 1 p)) e).trans ?_
    exact (congrArg x (hal _ _)).trans (hD _)

end Cert.Knn

end
-- ==== Proof.Value.Tail.lean ====
/-
  What the host's operations after the launch make of the array of indices.
-/
module

public import proofs.«01_k».proof.Proof.Value.Arrays

@[expose] public section

set_option maxRecDepth 16384

noncomputable section

namespace Cert.KernelIdeal.Hand

open Cert.KernelIdeal Cert.KernelIdeal.Gen
open Idealize.ShloMosaic Idealize.ShloMosaic.TcCoe Idealize.ShloMosaic.StableHlo

variable (m : (ℓ : Loc nD τ sig) → Buf (Elt Ideal) ℓ)

/-- The two rows of edges made from an array of indices: the neighbours, and the row each belongs to. -/
def edges (z : IVec S16384x16 32) : IVec S2x262144 32 :=
  concatenate S2x262144 0 [⟨S1x262144, broadcastInDim S1x262144 ![1] bcast_S262144_S1x262144_1 (shapeCast S262144 z shapeCasts_S16384x16_S262144)⟩,
    ⟨S1x262144, broadcastInDim S1x262144 ![1] bcast_S262144_S1x262144_1 (shapeCast S262144 (broadcastInDim S16384x16 ![0] bcast_S16384_S16384x16_0 (iotaInDim S16384 32 0)) shapeCasts_S16384x16_S262144)⟩]
    concatenates_S1x262144_S1x262144_S2x262144_d0

theorem tail_at (c : Dev nD) : Pipeline.afterTail₀ cfgs (dats m) 0 (V0 m) [hostOps1] c main_v7 = edges ((dats m 0 c).arrAt 2 (cfgs 0).N) := by
  have h := (dats m 0 c).withArrays_arrAt sharedIn0 (V0 m c) (A_eq m c) 2
  unfold Pipeline.afterTail₀ edges
  rw [← h]
  generalize Pipeline.withArrays (cfgs 0).spec c (V0 m c) (fun w => (dats m 0 c).arrAt w (cfgs 0).N) = V
  rw [List.flatten_singleton]
  after_results
  rfl

end Cert.KernelIdeal.Hand

end
-- ==== Proof.Value.Reference.lean ====
/-
  What the reference makes of its argument: the same sixteen nearest rows, by a sort of every row.
-/
module

public import proofs.«01_k».proof.Proof.Value.Sort
public import proofs.«01_k».proof.Proof.Value.Tail
public import proofs.«01_k».proof.Proof.Gen.ReferenceIdeal.Run

@[expose] public section

set_option maxRecDepth 16384

noncomputable section

namespace Cert.ReferenceIdeal.Hand

open Cert.ReferenceIdeal Cert.ReferenceIdeal.Gen
open Idealize.ShloMosaic Idealize.ShloMosaic.TcCoe
open Cert.KernelIdeal.Hand (rowDist sqd)

/-- The reference's negated squared distances. -/
def negDist (A : FVec Ideal S16384x64 .f32) : FVec Ideal S16384x16384 .f32 :=
  Host.negf (maximumf (addf (subf (broadcastInDim S16384x16384 ![0, 1] bcast_S16384x1_S16384x16384_0_1 (broadcastInDim S16384x1 ![0] bcast_S16384_S16384x1_0
      (Host.reduceAdd (mulf A A) (constant S_ .f32 0x00000000#32) reducesTo_S16384x64_S16384_d1 h_S_)))
    (mulf (broadcastInDim S16384x16384 ![] bcast_S_S16384x16384 (constant S_ .f32 0x40000000#32))
      (Host.dotGeneral dot_S16384x64_S64x16384_S16384x16384_1_0_0_1_n_n none A (transpose S64x16384 [1, 0] A transposes_S16384x64_S64x16384_1_0))))
    (broadcastInDim S16384x16384 ![0, 1] bcast_S1x16384_S16384x16384_0_1 (broadcastInDim S1x16384 ![1] bcast_S16384_S1x16384_1
      (Host.reduceAdd (mulf A A) (constant S_ .f32 0x00000000#32) reducesTo_S16384x64_S16384_d1 h_S_))))
    (broadcastInDim S16384x16384 ![] bcast_S_S16384x16384 (constant S_ .f32 0x00000000#32)))

theorem negDist_at (A : FVec Ideal S16384x64 .f32) (i p : Fin 16384) : negDist A (ix2 i p) = -rowDist A i p := by
  pointwise [negDist, rowDist, sqd]

/-- The sixteen greatest of every row of the negated distances, and the columns they stand in. -/
def greatest (A : FVec Ideal S16384x64 .f32) : FVec Ideal S16384x16 .f32 × IVec S16384x16 32 :=
  Host.topK S16384x16 1 (FloatOps.cmpfTotal .gt) (negDist A) sliceFits_S16384x16384_S16384x16

theorem greatest_idx (A : FVec Ideal S16384x64 .f32) (z : IVec S16384x16 32)
    (h : ∀ i : S16384x16.Idx, ∃ σ : Fin 16 → Fin 16384, Cert.Knn.IsTop (rowDist A (i 0)) σ ∧ z i = BitVec.ofNat 32 (σ (i 1)).val) :
    (greatest A).2 = z := by
  funext i
  obtain ⟨σ, h1, h2⟩ := h i
  idx_vars i
  exact (Cert.Knn.topK_at (negDist A) _ _ σ _ (negDist_at A _) h1 _).1.trans h2.symm

theorem greatest_dist (A : FVec Ideal S16384x64 .f32) (z : FVec Ideal S16384x16 .f32)
    (h : ∀ i : S16384x16.Idx, ∃ σ : Fin 16 → Fin 16384, Cert.Knn.IsTop (rowDist A (i 0)) σ ∧ z i = rowDist A (i 0) (σ (i 1))) :
    Host.negf (greatest A).1 = z := by
  funext i
  obtain ⟨σ, h1, h2⟩ := h i
  idx_vars i
  exact ((congrArg Neg.neg (Cert.Knn.topK_at (negDist A) _ _ σ _ (negDist_at A _) h1 _).2).trans (neg_neg _)).trans h2.symm

end Cert.ReferenceIdeal.Hand

end
-- ==== Proof.Value.Equal.lean ====
/-
  The kernel and the reference leave the same two results.
-/
module

public import proofs.«01_k».proof.Defs
public import proofs.«01_k».proof.Proof.Value.Finite
public import proofs.«01_k».proof.Proof.Value.Reference

@[expose] public section

set_option maxRecDepth 16384

noncomputable section

namespace Cert.Knn

open Idealize.ShloMosaic Idealize.ShloMosaic.TcCoe
open Idealize.SL.Sem

/-- What an execution of the kernel leaves in its two results. -/
theorem kernel_run (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v7) = Cert.KernelIdeal.Hand.edges ((Cert.KernelIdeal.Hand.dats m 0 c).arrAt 2 (Cert.KernelIdeal.cfgs 0).N)
      ∧ r.2.mem ((c.tc : Thread Cert.KernelIdeal.nD Cert.KernelIdeal.τ).loc Cert.KernelIdeal.main_v0_1) = (Cert.KernelIdeal.Hand.dats m 0 c).arrAt 3 (Cert.KernelIdeal.cfgs 0).N
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)) :=
  (θ_run Cert.KernelIdeal.defs _ _).mono (fun _ h c => ⟨((h.1 c).2 Cert.KernelIdeal.main_v7 (by decide)).trans (Cert.KernelIdeal.Hand.tail_at m c), (h.1 c).1 3,
    ((h.1 c).1 1).trans (((Cert.KernelIdeal.Hand.dats m 0 c).arrAt_in 1 rfl _).trans ((Cert.KernelIdeal.Hand.A_eq m c 1).trans (Cert.KernelIdeal.Gen.V_main_arg0 m c)))⟩)
    (Cert.KernelIdeal.Hand.run m g)

/-- The side condition the precondition states: a single number spreads to any shape. -/
theorem facts_pre : Cert.Pre_finite.Facts := ⟨by decide⟩

theorem algebraic : Cert.algebraic_KernelIdeal_ReferenceIdeal_pre_finite (hKernelIdeal := Cert.KernelIdeal.Gen.facts)
    (hReferenceIdeal := Cert.ReferenceIdeal.Gen.facts) (hPre_finite := facts_pre) := by
  intro m g m' g' hpre harg
  have hd := fun c : Dev Cert.KernelIdeal.nD => @rowDist_lt facts_pre (m ((c.tc : Thread Cert.KernelIdeal.nD Cert.KernelIdeal.τ).loc Cert.KernelIdeal.main_arg0)) (hpre c)
  refine ⟨_, _, kernel_run m g, (θ_run Cert.ReferenceIdeal.defs _ _).mono (fun r h c => ?_) (Cert.ReferenceIdeal.Value.run (F := Ideal) m' g')⟩
  obtain ⟨h1, h2, h3⟩ := h c
  have hi := Cert.ReferenceIdeal.Hand.greatest_idx _ _ (Cert.KernelIdeal.Hand.arr_idx m c (hd c))
  have hv := Cert.ReferenceIdeal.Hand.greatest_dist _ _ (Cert.KernelIdeal.Hand.arr_dist m c (hd c))
  rw [harg c] at h1 h2
  refine ⟨h1.trans ?_, h2.trans hv, h3⟩
  exact congrArg Cert.KernelIdeal.Hand.edges hi

end Cert.Knn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Run
public import proofs.«01_k».proof.Proof.KernelIdeal.Run
public import proofs.«01_k».proof.Proof.Ref.Quiet
public import proofs.«01_k».proof.Proof.Value.Equal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Knn.facts_pre,
  fun m g _ => Cert.Kernel.Hand.quiescent (F := Bits) m g,
  fun m g _ => Cert.KernelIdeal.Hand.quiescent (F := Ideal) m g,
  fun m g _ => Cert.KernelIdeal.Hand.quiescent (F := Ideal) m g,
  Cert.ReferenceIdeal.Hand.quiescent,
  fun m g _ => Cert.ReferenceIdeal.Hand.quiescent m g trivial, trivial, Cert.Knn.algebraic⟩

end Cert.Proof

end
